-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_3_to_8_bits [hPre_finite_and_3_to_8_bits : Cert.Pre_finite_and_3_to_8_bits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_3_to_8_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_3_to_8_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_3_to_8_bits [hPre_finite_and_3_to_8_bits : Cert.Pre_finite_and_3_to_8_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_3_to_8_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_3_to_8_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_3_to_8_bits [hKernelIdeal : Cert.KernelIdeal.Facts] [hPre_finite_and_3_to_8_bits : Cert.Pre_finite_and_3_to_8_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_3_to_8_bits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_3_to_8_bits [hReferenceIdeal : Cert.ReferenceIdeal.Facts] [hPre_finite_and_3_to_8_bits : Cert.Pre_finite_and_3_to_8_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_3_to_8_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_3_to_8_bits [hKernelIdeal : Cert.KernelIdeal.Facts] [hReferenceIdeal : Cert.ReferenceIdeal.Facts] [hPre_finite_and_3_to_8_bits : Cert.Pre_finite_and_3_to_8_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_3_to_8_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_3_to_8_bits : Cert.Pre_finite_and_3_to_8_bits.Facts),
    quiescent_Kernel (hKernel := hKernel)
    ∧ quiescent_KernelIdeal (hKernelIdeal := hKernelIdeal)
    ∧ quiescent_KernelIdeal_pre_finite_and_3_to_8_bits (hKernelIdeal := hKernelIdeal) (hPre_finite_and_3_to_8_bits := hPre_finite_and_3_to_8_bits)
    ∧ quiescent_ReferenceIdeal (hReferenceIdeal := hReferenceIdeal)
    ∧ quiescent_ReferenceIdeal_pre_finite_and_3_to_8_bits (hReferenceIdeal := hReferenceIdeal) (hPre_finite_and_3_to_8_bits := hPre_finite_and_3_to_8_bits)
    ∧ preserves_Kernel_KernelIdeal
    ∧ algebraic_KernelIdeal_ReferenceIdeal_pre_finite_and_3_to_8_bits (hKernelIdeal := hKernelIdeal) (hReferenceIdeal := hReferenceIdeal) (hPre_finite_and_3_to_8_bits := hPre_finite_and_3_to_8_bits)
-- ==== Pre_finite_and_3_to_8_bits.lean ====
abbrev S1024x1x2304 : Shape := ⟨3, ![1024, 1, 2304]⟩
abbrev S8x72x9216 : Shape := ⟨3, ![8, 72, 9216]⟩
abbrev S9216 : Shape := ⟨1, ![9216]⟩
abbrev S1024 : Shape := ⟨1, ![1024]⟩
abbrev S_ : Shape := ⟨0, ![]⟩

class Facts : Prop where
  bcast_S_S1024x1x2304 : S_.BroadcastsInDim S1024x1x2304 (![] : Fin 0 → Fin S1024x1x2304.rank)
  bcast_S_S1024 : S_.BroadcastsInDim S1024 (![] : Fin 0 → Fin S1024.rank)

variable [Facts]

def fn {F : FTy → Type} [FloatOps F] (main_arg0 : FVec F S1024x1x2304 .bf16) (main_arg1 : IVec S8x72x9216 32) (main_arg2 : FVec F S9216 .f32) (main_arg3 : FVec F S9216 .f32) (main_arg4 : IVec S1024 32) : IVec S1024x1x2304 1 × IVec S1024 1 :=
  let main_v0 : FVec F S1024x1x2304 .bf16 := Host.absf main_arg0
  let main_cst : FVec F S_ .bf16 := constant S_ .bf16 0x7F80#16
  let main_v1 : FVec F S1024x1x2304 .bf16 := broadcastInDim S1024x1x2304 ![] bcast_S_S1024x1x2304 main_cst
  let main_v2 : IVec S1024x1x2304 1 := cmpf .olt main_v0 main_v1
  let main_c : IVec S_ 32 := constantI S_ 32 3#32
  let main_v3 : IVec S1024 32 := broadcastInDim S1024 ![] bcast_S_S1024 main_c
  let main_v4 : IVec S1024 1 := cmpi .sge main_arg4 main_v3
  let main_c_0 : IVec S_ 32 := constantI S_ 32 8#32
  let main_v5 : IVec S1024 32 := broadcastInDim S1024 ![] bcast_S_S1024 main_c_0
  let main_v6 : IVec S1024 1 := cmpi .sle main_arg4 main_v5
  let main_v7 : IVec S1024 1 := andi main_v4 main_v6
  (main_v2, main_v7)
-- ==== Kernel.lean ====
abbrev S1024x1x2304 : Shape := ⟨3, ![1024, 1, 2304]⟩
abbrev S8x72x9216 : Shape := ⟨3, ![8, 72, 9216]⟩
abbrev S9216 : Shape := ⟨1, ![9216]⟩
abbrev S1024 : Shape := ⟨1, ![1024]⟩
abbrev S1024x9x8x4x8 : Shape := ⟨5, ![1024, 9, 8, 4, 8]⟩
abbrev S1024x9x8x8x4 : Shape := ⟨5, ![1024, 9, 8, 8, 4]⟩
abbrev S1024x2304 : Shape := ⟨2, ![1024, 2304]⟩
abbrev S1x9216 : Shape := ⟨2, ![1, 9216]⟩
abbrev S1024x1 : Shape := ⟨2, ![1024, 1]⟩
abbrev S1024x9216 : Shape := ⟨2, ![1024, 9216]⟩
abbrev S8x72x512 : Shape := ⟨3, ![8, 72, 512]⟩
abbrev S1x512 : Shape := ⟨2, ![1, 512]⟩
abbrev S1024x512 : Shape := ⟨2, ![1024, 512]⟩
abbrev S576x512 : Shape := ⟨2, ![576, 512]⟩
abbrev S1x8x512 : Shape := ⟨3, ![1, 8, 512]⟩
abbrev S8x512 : Shape := ⟨2, ![8, 512]⟩
abbrev S2304x512 : Shape := ⟨2, ![2304, 512]⟩

abbrev nBuf : Space → Nat
  | .hbm => 12
  | .vmem => 11
  | .smem => 0
  | _ => 0

abbrev bufTy : (tb : Table) → Fin (tcTables nBuf tb) → BufTy
  | .hbm, ⟨0, _⟩ => ⟨S1024x1x2304, .bf16⟩
  | .hbm, ⟨1, _⟩ => ⟨S8x72x9216, .i32⟩
  | .hbm, ⟨2, _⟩ => ⟨S9216, .f32⟩
  | .hbm, ⟨3, _⟩ => ⟨S9216, .f32⟩
  | .hbm, ⟨4, _⟩ => ⟨S1024, .i32⟩
  | .hbm, ⟨5, _⟩ => ⟨S1024x9x8x4x8, .bf16⟩
  | .hbm, ⟨6, _⟩ => ⟨S1024x9x8x8x4, .bf16⟩
  | .hbm, ⟨7, _⟩ => ⟨S1024x2304, .bf16⟩
  | .hbm, ⟨8, _⟩ => ⟨S1x9216, .f32⟩
  | .hbm, ⟨9, _⟩ => ⟨S1x9216, .f32⟩
  | .hbm, ⟨10, _⟩ => ⟨S1024x1, .i32⟩
  | .hbm, ⟨11, _⟩ => ⟨S1024x9216, .bf16⟩
  | .local _ .vmem, ⟨0, _⟩ => ⟨S1024x2304, .bf16⟩
  | .local _ .vmem, ⟨1, _⟩ => ⟨S8x72x512, .i32⟩
  | .local _ .vmem, ⟨2, _⟩ => ⟨S8x72x512, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1024x1, .i32⟩
  | .local _ .vmem, ⟨8, _⟩ => ⟨S1024x512, .bf16⟩
  | .local _ .vmem, ⟨9, _⟩ => ⟨S1024x512, .bf16⟩
  | .local _ .vmem, ⟨10, _⟩ => ⟨S576x512, .i32⟩
  | _, _ => ⟨S1024x1x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x72x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x1x2304 : Shape := ⟨3, ![1024, 1, 2304]⟩
abbrev S8x72x9216 : Shape := ⟨3, ![8, 72, 9216]⟩
abbrev S9216 : Shape := ⟨1, ![9216]⟩
abbrev S1024 : Shape := ⟨1, ![1024]⟩
abbrev S32 : Shape := ⟨1, ![32]⟩
abbrev S1x1x32x1 : Shape := ⟨4, ![1, 1, 32, 1]⟩
abbrev S8x72x1x9216 : Shape := ⟨4, ![8, 72, 1, 9216]⟩
abbrev S8x72x32x9216 : Shape := ⟨4, ![8, 72, 32, 9216]⟩
abbrev S_ : Shape := ⟨0, ![]⟩
abbrev S1024x72x32 : Shape := ⟨3, ![1024, 72, 32]⟩
abbrev S8x9216x1024 : Shape := ⟨3, ![8, 9216, 1024]⟩
abbrev S8x1024x9216 : Shape := ⟨3, ![8, 1024, 9216]⟩
abbrev S8 : Shape := ⟨1, ![8]⟩
abbrev S1x8 : Shape := ⟨2, ![1, 8]⟩
abbrev S1024x1 : Shape := ⟨2, ![1024, 1]⟩
abbrev S1024x8 : Shape := ⟨2, ![1024, 8]⟩
abbrev S1024x9216 : Shape := ⟨2, ![1024, 9216]⟩
abbrev S1x9216 : Shape := ⟨2, ![1, 9216]⟩

abbrev nBuf : Space → Nat
  | .hbm => 66
  | .vmem => 0
  | .smem => 0
  | _ => 0

abbrev bufTy : (tb : Table) → Fin (tcTables nBuf tb) → BufTy
  | .hbm, ⟨0, _⟩ => ⟨S1024x1x2304, .bf16⟩
  | .hbm, ⟨1, _⟩ => ⟨S8x72x9216, .i32⟩
  | .hbm, ⟨2, _⟩ => ⟨S9216, .f32⟩
  | .hbm, ⟨3, _⟩ => ⟨S9216, .f32⟩
  | .hbm, ⟨4, _⟩ => ⟨S1024, .i32⟩
  | .hbm, ⟨5, _⟩ => ⟨S32, .i32⟩
  | .hbm, ⟨6, _⟩ => ⟨S1x1x32x1, .i32⟩
  | .hbm, ⟨7, _⟩ => ⟨S8x72x1x9216, .i32⟩
  | .hbm, ⟨8, _⟩ => ⟨S8x72x32x9216, .i32⟩
  | .hbm, ⟨9, _⟩ => ⟨S8x72x32x9216, .i32⟩
  | .hbm, ⟨10, _⟩ => ⟨S8x72x32x9216, .i32⟩
  | .hbm, ⟨11, _⟩ => ⟨S_, .i32⟩
  | .hbm, ⟨12, _⟩ => ⟨S8x72x32x9216, .i32⟩
  | .hbm, ⟨13, _⟩ => ⟨S8x72x32x9216, .i32⟩
  | .hbm, ⟨14, _⟩ => ⟨S8x72x32x9216, .bf16⟩
  | .hbm, ⟨15, _⟩ => ⟨S1024x72x32, .bf16⟩
  | .hbm, ⟨16, _⟩ => ⟨S8x9216x1024, .f32⟩
  | .hbm, ⟨17, _⟩ => ⟨S8x1024x9216, .f32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .f32⟩
  | .hbm, ⟨26, _⟩ => ⟨S1x8, .i32⟩
  | .hbm, ⟨27, _⟩ => ⟨S1024x1, .i32⟩
  | .hbm, ⟨28, _⟩ => ⟨S1024x8, .i32⟩
  | .hbm, ⟨29, _⟩ => ⟨S1024x8, .i32⟩
  | .hbm, ⟨30, _⟩ => ⟨S1024x8, .i1⟩
  | .hbm, ⟨31, _⟩ => ⟨S1x8, .f32⟩
  | .hbm, ⟨32, _⟩ => ⟨S_, .f32⟩
  | .hbm, ⟨33, _⟩ => ⟨S1024x8, .f32⟩
  | .hbm, ⟨34, _⟩ => ⟨S1024x8, .f32⟩
  | .hbm, ⟨35, _⟩ => ⟨S1024x8, .f32⟩
  | .hbm, ⟨36, _⟩ => ⟨S1024x9216, .f32⟩
  | .hbm, ⟨37, _⟩ => ⟨S1024x1x2304, .f32⟩
  | .hbm, ⟨38, _⟩ => ⟨S_, .f32⟩
  | .hbm, ⟨39, _⟩ => ⟨S1024, .f32⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x9216, .f32⟩
  | .hbm, ⟨54, _⟩ => ⟨S1024x1, .f32⟩
  | .hbm, ⟨55, _⟩ => ⟨S1x9216, .f32⟩
  | .hbm, ⟨56, _⟩ => ⟨S1024x9216, .f32⟩
  | .hbm, ⟨57, _⟩ => ⟨S1024x9216, .f32⟩
  | .hbm, ⟨58, _⟩ => ⟨S1024x9216, .f32⟩
  | .hbm, ⟨59, _⟩ => ⟨S1024x1, .f32⟩
  | .hbm, ⟨60, _⟩ => ⟨S1024x9216, .f32⟩
  | .hbm, ⟨61, _⟩ => ⟨S1024x9216, .f32⟩
  | .hbm, ⟨62, _⟩ => ⟨S1024x9216, .f32⟩
  | .hbm, ⟨63, _⟩ => ⟨S1024x9216, .f32⟩
  | .hbm, ⟨64, _⟩ => ⟨S1024x9216, .f32⟩
  | .hbm, ⟨65, _⟩ => ⟨S1024x9216, .bf16⟩
  | _, _ => ⟨S1024x1x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Swap.lean ====
/- The kernel's bit transposition on eight words: three rounds of masked exchanges, as functions of words. -/
module

public import Idealize.ShloMosaic.PureOps
public import Mathlib.Tactic.IntervalCases

@[expose] public section

namespace Cert.Swap

open Idealize.ShloMosaic

/-- The bits two words exchange: those of `a`, moved down by `s`, that differ from `b`'s under the mask. -/
def diff (s mask a b : BitVec 32) : BitVec 32 := IntOp.andi (IntOp.xori (IntOp.shrui .vector a s) b) mask
/-- The second word after the exchange. -/
def hi (s mask a b : BitVec 32) : BitVec 32 := IntOp.xori b (diff s mask a b)
/-- The first word after the exchange. -/
def lo (s mask a b : BitVec 32) : BitVec 32 := IntOp.xori a (IntOp.shli .vector (diff s mask a b) s)

/-- The round of distance four. -/
def round4 (v : Fin 8 → BitVec 32) : Fin 8 → BitVec 32 :=
  ![lo 4#32 252645135#32 (v 0) (v 4), lo 4#32 252645135#32 (v 1) (v 5), lo 4#32 252645135#32 (v 2) (v 6),
    lo 4#32 252645135#32 (v 3) (v 7), hi 4#32 252645135#32 (v 0) (v 4), hi 4#32 252645135#32 (v 1) (v 5),
    hi 4#32 252645135#32 (v 2) (v 6), hi 4#32 252645135#32 (v 3) (v 7)]
/-- The round of distance two. -/
def round2 (v : Fin 8 → BitVec 32) : Fin 8 → BitVec 32 :=
  ![lo 2#32 858993459#32 (v 0) (v 2), lo 2#32 858993459#32 (v 1) (v 3), hi 2#32 858993459#32 (v 0) (v 2),
    hi 2#32 858993459#32 (v 1) (v 3), lo 2#32 858993459#32 (v 4) (v 6), lo 2#32 858993459#32 (v 5) (v 7),
    hi 2#32 858993459#32 (v 4) (v 6), hi 2#32 858993459#32 (v 5) (v 7)]
/-- The round of distance one. -/
def round1 (v : Fin 8 → BitVec 32) : Fin 8 → BitVec 32 :=
  ![lo 1#32 1431655765#32 (v 0) (v 1), hi 1#32 1431655765#32 (v 0) (v 1), lo 1#32 1431655765#32 (v 2) (v 3),
    hi 1#32 1431655765#32 (v 2) (v 3), lo 1#32 1431655765#32 (v 4) (v 5), hi 1#32 1431655765#32 (v 4) (v 5),
    lo 1#32 1431655765#32 (v 6) (v 7), hi 1#32 1431655765#32 (v 6) (v 7)]

/-- The transposition, the sign bit of every byte flipped at the end. -/
def code (v : Fin 8 → BitVec 32) (m : Fin 8) : BitVec 32 :=
  IntOp.xori (round1 (round2 (round4 v)) m) 2155905152#32

/-- Bit `i` of the second word after an exchange. -/
theorem getLsbD_hi (s : ℕ) (hs : s < 32) (mask a b : BitVec 32) (i : ℕ) (hi' : i < 32) :
    (hi (BitVec.ofNat 32 s) mask a b).getLsbD i = if mask.getLsbD i then a.getLsbD (i + s) else b.getLsbD i := by
  have h : (BitVec.ofNat 32 s).toNat = s := by simp; omega
  simp only [hi, diff, IntOp.xori, IntOp.andi, IntOp.shrui, h, if_pos hs, BitVec.getLsbD_xor, BitVec.getLsbD_and,
    BitVec.getLsbD_ushiftRight, BitVec.ushiftRight_eq']
  rw [Nat.add_comm s i]
  cases mask.getLsbD i <;> cases a.getLsbD (i + s) <;> cases b.getLsbD i <;> rfl

/-- Bit `i` of the first word after an exchange. -/
theorem getLsbD_lo (s : ℕ) (hs : s < 32) (mask a b : BitVec 32) (i : ℕ) (hi' : i < 32) :
    (lo (BitVec.ofNat 32 s) mask a b).getLsbD i
      = if s ≤ i ∧ mask.getLsbD (i - s) then b.getLsbD (i - s) else a.getLsbD i := by
  have h : (BitVec.ofNat 32 s).toNat = s := by simp; omega
  simp only [lo, diff, IntOp.xori, IntOp.andi, IntOp.shrui, IntOp.shli, h, if_pos hs, BitVec.getLsbD_xor, BitVec.getLsbD_and,
    BitVec.getLsbD_ushiftRight, BitVec.ushiftRight_eq', BitVec.getLsbD_shiftLeft, BitVec.shiftLeft_eq']
  by_cases hsi : s ≤ i
  · have e : s + (i - s) = i := by omega
    have n : ¬ i < s := by omega
    rw [e]
    generalize mask.getLsbD (i - s) = M
    generalize a.getLsbD i = A
    generalize b.getLsbD (i - s) = B
    cases M <;> cases A <;> cases B <;> simp [hsi, hi', n]
  · simp [hsi, show i < s by omega]

/-- The word bit `i` of word `m` comes from in the round of distance `s`. -/
def word (s m i : ℕ) : ℕ := if m / s % 2 = 0 then (if i / s % 2 = 1 then m + s else m) else (if i / s % 2 = 0 then m - s else m)
/-- The bit it comes from. -/
def bit (s m i : ℕ) : ℕ := if m / s % 2 = 0 then (if i / s % 2 = 1 then i - s else i) else (if i / s % 2 = 0 then i + s else i)

theorem mask4 (i : ℕ) (h : i < 32) : (252645135#32).getLsbD i = decide (i / 4 % 2 = 0) := by interval_cases i <;> rfl
theorem mask2 (i : ℕ) (h : i < 32) : (858993459#32).getLsbD i = decide (i / 2 % 2 = 0) := by interval_cases i <;> rfl
theorem mask1 (i : ℕ) (h : i < 32) : (1431655765#32).getLsbD i = decide (i / 1 % 2 = 0) := by interval_cases i <;> rfl

/-- An exchange's second word, at a mask that is set where bit `s` of the position is clear. -/
theorem hi_bit (s : ℕ) (hs : s < 32) (mask : BitVec 32) (hm : ∀ i < 32, mask.getLsbD i = decide (i / s % 2 = 0))
    (a b : BitVec 32) (i : ℕ) (h : i < 32) :
    (hi (BitVec.ofNat 32 s) mask a b).getLsbD i = if i / s % 2 = 0 then a.getLsbD (i + s) else b.getLsbD i := by
  rw [getLsbD_hi s hs mask a b i h, hm i h]; simp

/-- An exchange's first word likewise. -/
theorem lo_bit (s : ℕ) (h0 : 0 < s) (hs : s < 32) (mask : BitVec 32) (hm : ∀ i < 32, mask.getLsbD i = decide (i / s % 2 = 0))
    (a b : BitVec 32) (i : ℕ) (h : i < 32) :
    (lo (BitVec.ofNat 32 s) mask a b).getLsbD i = if i / s % 2 = 1 then b.getLsbD (i - s) else a.getLsbD i := by
  rw [getLsbD_lo s hs mask a b i h]
  by_cases hsi : s ≤ i
  · have e : i / s = (i - s) / s + 1 := by
      rw [← Nat.add_div_right _ h0, Nat.sub_add_cancel hsi]
    rw [hm (i - s) (by omega)]
    simp only [hsi, true_and, decide_eq_true_eq]
    congr 1
    rw [e]; apply propext; omega
  · have e : i / s = 0 := Nat.div_eq_of_lt (by omega)
    simp [hsi, e]

theorem round4_bit (v : Fin 8 → BitVec 32) (m : Fin 8) (i : ℕ) (h : i < 32) :
    (round4 v m).getLsbD i = (v (Fin.ofNat 8 (word 4 m i))).getLsbD (bit 4 m i) := by
  have L := fun a b => lo_bit 4 (by omega) (by omega) 252645135#32 mask4 a b i h
  have H := fun a b => hi_bit 4 (by omega) 252645135#32 mask4 a b i h
  rcases Nat.mod_two_eq_zero_or_one (i / 4) with e | e <;> fin_cases m <;>
    simp [round4, L, H, word, bit, e] <;> rfl

theorem round2_bit (v : Fin 8 → BitVec 32) (m : Fin 8) (i : ℕ) (h : i < 32) :
    (round2 v m).getLsbD i = (v (Fin.ofNat 8 (word 2 m i))).getLsbD (bit 2 m i) := by
  have L := fun a b => lo_bit 2 (by omega) (by omega) 858993459#32 mask2 a b i h
  have H := fun a b => hi_bit 2 (by omega) 858993459#32 mask2 a b i h
  rcases Nat.mod_two_eq_zero_or_one (i / 2) with e | e <;> fin_cases m <;>
    simp [round2, L, H, word, bit, e] <;> rfl

theorem round1_bit (v : Fin 8 → BitVec 32) (m : Fin 8) (i : ℕ) (h : i < 32) :
    (round1 v m).getLsbD i = (v (Fin.ofNat 8 (word 1 m i))).getLsbD (bit 1 m i) := by
  have L := fun a b => lo_bit 1 (by omega) (by omega) 1431655765#32 mask1 a b i h
  have H := fun a b => hi_bit 1 (by omega) 1431655765#32 mask1 a b i h
  rcases Nat.mod_two_eq_zero_or_one i with e | e <;> fin_cases m <;>
    simp [round1, L, H, word, bit, e] <;> rfl

/-- THE TRANSPOSITION: bit `b` of byte `j` of word `m` is bit `m` of byte `j` of word `b`. -/
theorem rounds_bit (v : Fin 8 → BitVec 32) (m b : Fin 8) (j : Fin 4) :
    (round1 (round2 (round4 v)) m).getLsbD (8 * j.val + b.val) = (v b).getLsbD (8 * j.val + m.val) := by
  have h1 : ∀ (m b : Fin 8) (j : Fin 4), bit 1 m (8 * j.val + b.val) < 32
      ∧ bit 2 (Fin.ofNat 8 (word 1 m (8 * j.val + b.val))).val (bit 1 m (8 * j.val + b.val)) < 32 := by decide
  have h2 : ∀ (m b : Fin 8) (j : Fin 4),
      let i1 := bit 1 m (8 * j.val + b.val)
      let m1 : Fin 8 := Fin.ofNat 8 (word 1 m (8 * j.val + b.val))
      let i2 := bit 2 m1 i1
      let m2 : Fin 8 := Fin.ofNat 8 (word 2 m1 i1)
      Fin.ofNat 8 (word 4 m2 i2) = b ∧ bit 4 m2 i2 = 8 * j.val + m.val := by decide
  rw [round1_bit _ m _ (by omega), round2_bit _ _ _ (h1 m b j).1, round4_bit _ _ _ (h1 m b j).2, (h2 m b j).1, (h2 m b j).2]

/-- Bit `b` of byte `j` of code word `m`: bit `m` of byte `j` of word `b`, flipped at the byte's sign bit. -/
theorem code_bit (v : Fin 8 → BitVec 32) (m b : Fin 8) (j : Fin 4) :
    (code v m).getLsbD (8 * j.val + b.val) = ((v b).getLsbD (8 * j.val + m.val) ^^ decide (b.val = 7)) := by
  have h : ∀ (b : Fin 8) (j : Fin 4), (2155905152#32).getLsbD (8 * j.val + b.val) = decide (b.val = 7) := by decide
  rw [code, IntOp.xori, BitVec.getLsbD_xor, rounds_bit, h]

end Cert.Swap
-- ==== Proof.Scratch.lean ====
/- What the kernel's scratch holds once its seventy-two stores are done: each block of eight rows one word of the transposition. -/
module

public import proofs.«01_k».proof.Proof.Gen.KernelIdeal.Value
public import proofs.«01_k».proof.Proof.Swap
public import Idealize.ShloMosaic.Lib.ValueIdx
public import Idealize.ShloMosaic.Lib.Pointwise.Reshape
public import Idealize.ShloMosaic.Lib.Pointwise.ElementwiseCore

@[expose] public section

set_option maxRecDepth 16384

noncomputable section

namespace Cert.KernelIdeal.Body

open Idealize.ShloMosaic hiding ix0 ix1 ix2 ix3 ix4 ix5 eq_ix2 eq_ix3
open Idealize.ShloMosaic.TcCoe Idealize.ShloMosaic.Tactic Idealize.ShloMosaic.ValueIdx
open Cert.KernelIdeal.Gen

variable {F : FTy → Type} [FloatOps F]

/-- The eight plane words at word row `w`, lane `l`, the last plane first. -/
def planes (x1 : Vec F S8x72x512 .i32) (w : Fin 72) (l : Fin 512) : Fin 8 → BitVec 32 :=
  fun m => x1 (ix3 (⟨7 - m.val, by omega⟩ : Fin 8) w l)

/-- The code word of scratch row `a`, lane `l`: of the 64 rows a tile of eight word rows fills, eight in turn for each word of the transposition. -/
def codes (x1 : Vec F S8x72x512 .i32) : Vec F S576x512 .i32 := fun y =>
  Swap.code (planes x1 ⟨(y 0).val / 64 * 8 + (y 0).val % 8, by have := idx2_lt0 y; omega⟩ ⟨(y 1).val, idx2_lt1 y⟩)
    ⟨(y 0).val / 8 % 8, by omega⟩

theorem plane_lt {p r : ℕ} (inb : ∀ a, ![p, r, 0] a + S1x8x512.size a ≤ S8x72x512.size a) : p < 8 := by
  have := inb 0; simp at this; omega
theorem row_lt {p r : ℕ} (inb : ∀ a, ![p, r, 0] a + S1x8x512.size a ≤ S8x72x512.size a) (a : Fin 8) : r + a.val < 72 := by
  have := inb 1; simp at this; omega

/-- A plane's eight word rows from row `r` on, loaded and flattened, at row `a`, lane `l`. -/
theorem plane_apply (x1 : Vec F S8x72x512 .i32) (p r : ℕ) (inb : ∀ a, ![p, r, 0] a + S1x8x512.size a ≤ S8x72x512.size a)
    (h) (a : Fin 8) (l : Fin 512) :
    shapeCast (s := S1x8x512) (α := BitVec 32) S8x512 (View.ld (Val := Elt F) (e' := .i32) x1 (Rect.unit (s := S8x72x512) ![p, r, 0] ![1, 8, 512] inb)) h (ix2 a l)
      = x1 (ix3 (⟨p, plane_lt inb⟩ : Fin 8) (⟨r + a.val, row_lt inb a⟩ : Fin 72) l) := by
  have e : Shape.reshapeEquiv shapeCasts_S1x8x512_S8x512 (ix2 a l) = (ix3 (0 : Fin 1) a l : S1x8x512.Idx) := by
    apply Shape.reshapeEquiv_eq_of_rowMajor
    rw [Shape.rowMajor_val_three, Shape.rowMajor_val_two]
    show ((0 : ℕ) * 8 + a.val) * 512 + l.val = a.val * 512 + l.val
    omega
  refine (congrArg (View.ld (Val := Elt F) (e' := .i32) x1 (Rect.unit (s := S8x72x512) ![p, r, 0] S1x8x512.size inb)) e).trans
    (congrArg x1 (funext fun b => Fin.ext ?_))
  match b with
  | ⟨0, _⟩ => exact (congrArg (p + ·) (Nat.mul_zero 1))
  | ⟨1, _⟩ => exact (congrArg (r + ·) (Nat.one_mul a.val))
  | ⟨2, _⟩ => exact ((Nat.zero_add _).trans (Nat.one_mul l.val))

/-- The scratch's words at the rows of the store at row offset `o`, a multiple of eight. -/
theorem codes_emb (x1 : Vec F S8x72x512 .i32) (o : ℕ) (inb) (ho : o % 8 = 0) (a : Fin 8) (l : Fin 512) (hw : o / 64 * 8 + 8 ≤ 72) :
    codes x1 ((Rect.unit (s := S576x512) ![o, 0] S8x512.size inb).emb (ix2 a l))
      = Swap.code (planes x1 ⟨o / 64 * 8 + a.val, by omega⟩ l) ⟨o / 8 % 8, by omega⟩ := by
  have h0 : (((Rect.unit (s := S576x512) ![o, 0] S8x512.size inb).emb (ix2 a l)) 0 : ℕ) = o + a.val := by
    rw [Rect.emb_apply]; show o + 1 * a.val = _; omega
  have h1 : (((Rect.unit (s := S576x512) ![o, 0] S8x512.size inb).emb (ix2 a l)) 1 : ℕ) = l.val := by
    rw [Rect.emb_apply]; show 0 + 1 * l.val = _; omega
  unfold codes
  congr 1
  · congr 1
    · apply Fin.ext; show _ / 64 * 8 + _ % 8 = o / 64 * 8 + a.val; rw [h0]; omega
    · exact Fin.ext h1
  · apply Fin.ext; show _ / 8 % 8 = _; rw [h0]; show (o + a.val) / 8 % 8 = o / 8 % 8; omega

set_option maxHeartbeats 4000000 in
/-- WHAT THE SCRATCH HOLDS when the kernel reads it back. -/
theorem scratch_eq (c : Dev nD) (arg2 : Memref sig .tc .vmem S8x72x512 .i32) (harg2 : arg2.IsWhole)
    (arg7 : Memref sig .tc .vmem S576x512 .i32) (x1 : Vec F S8x72x512 .i32) :
    kernelRun0_A.sl.v1481 c arg2 harg2 arg7 x1 = codes x1 := by
  unfold kernelRun0_A.sl.v1481
  rw [View.readCov_eq_canon']
  funext j
  show View.canon _ ((Rect.unit (s := S576x512) ![0, 0] S576x512.size inb_S576x512_S576x512_0_0).idx j) = _
  rw [show (Rect.unit (s := S576x512) ![0, 0] S576x512.size inb_S576x512_S576x512_0_0).idx j = j from by
    funext a; apply Fin.ext; match a with | ⟨0, _⟩ => exact (Nat.zero_add _).trans (Nat.one_mul _) | ⟨1, _⟩ => exact (Nat.zero_add _).trans (Nat.one_mul _)]
  refine View.canon_apply_of_pieces (codes x1) _ ?_ j
    (View.cover_of_tiledL (kernelRun0_A.sl.HS0_72 c arg2 harg2 x1) S8x512.size (by sl_kernel_rfl) j)
  unfold kernelRun0_A.sl.HS0_72
  simp only [List.forall_mem_cons]
  sl_unfold_words
  simp only [
    k0_pay1, k0_pay2, k0_pay3, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53, k0_pay54, k0_pay55, k0_pay56, k0_pay57,
    k0_pay58, k0_pay59, k0_pay60, k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252, k0_pay253, k0_pay254, k0_pay255,
    k0_pay256, k0_pay257, k0_pay258, k0_pay259, k0_pay260, k0_pay261, k0_pay262, k0_pay263, k0_pay264, k0_pay265, k0_pay266, k0_pay267, k0_pay268,
    k0_pay269, k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293, k0_pay294,
    k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320,
    k0_pay321, k0_pay322, k0_pay323, k0_pay324, k0_pay325, k0_pay326, k0_pay327, k0_pay328, k0_pay329, k0_pay330, k0_pay331, k0_pay332, k0_pay333,
    k0_pay334, k0_pay335, k0_pay336, k0_pay337, k0_pay338, k0_pay339, k0_pay340, k0_pay341, k0_pay342, k0_pay343, k0_pay344, k0_pay345, k0_pay346,
    k0_pay347, k0_pay348, k0_pay349, k0_pay350, k0_pay351, k0_pay352, k0_pay353, k0_pay354, k0_pay355, k0_pay356, k0_pay357, k0_pay358, k0_pay359,
    k0_pay360, k0_pay361, k0_pay362, k0_pay363, k0_pay364, k0_pay365, k0_pay366, k0_pay367, k0_pay368, k0_pay369, k0_pay370, k0_pay371, k0_pay372,
    k0_pay373, k0_pay374, k0_pay375, k0_pay376, k0_pay377, k0_pay378, k0_pay379, k0_pay380, k0_pay381, k0_pay382, k0_pay383, k0_pay384, k0_pay385,
    k0_pay386, k0_pay387, k0_pay388, k0_pay389, k0_pay390, k0_pay391, k0_pay392, k0_pay393, k0_pay394, k0_pay395, k0_pay396, k0_pay397, k0_pay398,
    k0_pay399, k0_pay400, k0_pay401, k0_pay402, k0_pay403, k0_pay404, k0_pay405, k0_pay406, k0_pay407, k0_pay408, k0_pay409, k0_pay410, k0_pay411,
    k0_pay412, k0_pay413, k0_pay414, k0_pay415, k0_pay416, k0_pay417, k0_pay418, k0_pay419, k0_pay420, k0_pay421, k0_pay422, k0_pay423, k0_pay424,
    k0_pay425, k0_pay426, k0_pay427, k0_pay428, k0_pay429, k0_pay430, k0_pay431, k0_pay432, k0_pay433, k0_pay434, k0_pay435, k0_pay436, k0_pay437,
    k0_pay438, k0_pay439, k0_pay440, k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460, k0_pay461, k0_pay462, k0_pay463,
    k0_pay464, k0_pay465, k0_pay466, k0_pay467, k0_pay468, k0_pay469, k0_pay470, k0_pay471, k0_pay472, k0_pay473, k0_pay474, k0_pay475, k0_pay476,
    k0_pay477, k0_pay478, k0_pay479, k0_pay480, k0_pay481,
    View.readAt_eq_ld, harg2.read_unread, shapeCast_id]
  repeat' apply And.intro
  all_goals intro x
  all_goals
    first
    | (obtain ⟨a, l, rfl⟩ : ∃ (a : Fin 8) (l : Fin 512), x = ix2 a l := ⟨x 0, x 1, eq_ix2 x⟩
       rw [codes_emb x1 _ _ (by decide) a l (by decide)]
       simp only [xori_apply, andi_apply, shli_apply, shrui_apply, broadcast_apply, plane_apply]
       rfl)
    | (intro h; exact absurd h List.not_mem_nil)

end Cert.KernelIdeal.Body
end
-- ==== Proof.Byte.lean ====
/- A signed byte as the weights of its bits, and what is left of it when only its leading bits are kept. -/
module

public import Mathlib.Algebra.BigOperators.Fin
public import Mathlib.Tactic.IntervalCases
public import Mathlib.Tactic.FinCases
public import Mathlib.Tactic.NormNum

@[expose] public section

open scoped BigOperators

namespace Cert.Byte

/-- A signed byte is the unsigned value of its bits with the leading one turned over, less 128. -/
theorem toInt_eq (y : BitVec 8) :
    y.toInt = (∑ p : Fin 8, (2 : ℤ) ^ (7 - p.val) * ((y.getLsbD (7 - p.val) ^^ decide (p.val = 0)).toNat : ℤ)) - 128 := by
  obtain ⟨n⟩ := y
  revert n
  decide +kernel

/-- A byte whose bits are `u`'s, the leading one turned over, with all but the first `b` of them cleared: its signed value is the weights of
    the first `b` bits, less 128. -/
theorem toInt_masked (y : BitVec 8) (u : Fin 8 → Bool) (b : ℕ) (hb : 1 ≤ b)
    (h : ∀ p : Fin 8, y.getLsbD (7 - p.val) = ((u p ^^ decide (p.val = 0)) && decide (p.val < b))) :
    y.toInt = (∑ p : Fin 8, if p.val < b then (2 : ℤ) ^ (7 - p.val) * ((u p).toNat : ℤ) else 0) - 128 := by
  rw [toInt_eq]
  congr 1
  refine Finset.sum_congr rfl fun p _ => ?_
  rw [h p]
  by_cases hp : p.val < b
  · rw [if_pos hp]; simp [hp]
  · have h0 : p.val ≠ 0 := by omega
    rw [if_neg hp]; simp [hp, h0]

end Cert.Byte
end
-- ==== Proof.Field.lean ====
/- The bytes the scratch's words are read as: under the mask of a row's width, each is that many leading planes' bits of one weight, less 128. -/
module

public import proofs.«01_k».proof.Proof.Scratch
public import proofs.«01_k».proof.Proof.Byte
public import Idealize.ShloMosaic.Lib.BitcastPair

@[expose] public section

noncomputable section

namespace Cert.KernelIdeal.Body

open Idealize.ShloMosaic hiding ix0 ix1 ix2 ix3 ix4 ix5 eq_ix2 eq_ix3
open Idealize.ShloMosaic.ValueIdx
open Cert.KernelIdeal.Gen
open scoped BigOperators

variable {F : FTy → Type} [FloatOps F]

/-- The word row the kernel's activation column `k` meets, and the bit of the word. -/
def word (k : Fin 2304) : Fin 72 := ⟨k.val / 256 * 8 + k.val / 4 % 8, by omega⟩
def pos (k : Fin 2304) : Fin 32 := ⟨k.val % 4 * 8 + k.val / 32 % 8, by omega⟩

/-- The mask that keeps the first `b` bits of each byte of a word. -/
def mask (b : ℕ) : BitVec 32 := BitVec.ofNat 32 (16843009 * (256 - 2 ^ (8 - b)))

theorem mask_bit : ∀ (b : Fin 9) (j : Fin 4) (p : Fin 8), 3 ≤ b.val → (mask b.val).getLsbD (8 * j.val + (7 - p.val)) = decide (p.val < b.val) := by
  decide +kernel

/-- The first `b` of eight bits, as the leading bits of a byte. -/
def weight (u : Fin 8 → Bool) (b : ℕ) : ℤ := ∑ p : Fin 8, if p.val < b then (2 : ℤ) ^ (7 - p.val) * ((u p).toNat : ℤ) else 0

/-- Four bytes to a word: bit `q` of the byte of row `k` is bit `8 (k mod 4) + q` of the word of row `k / 4`. -/
theorem bytes_bit (x : IVec S576x512 32) (h : S576x512.Bitcasts 32 S2304x512 8) (k : Fin 2304) (l : Fin 512) (q : ℕ) (hq : q < 8) :
    (bitcast S2304x512 8 x h (ix2 k l)).getLsbD q
      = (x (ix2 (⟨k.val / 4, by omega⟩ : Fin 576) l)).getLsbD (8 * (k.val % 4) + q) := by
  rw [bitcast_getLsbD x h _ q hq (by decide)]
  have hr : S2304x512.row (ix2 k l) = k.val := rfl
  have e1 : (S2304x512.row (ix2 k l) * 8 + q) / 32 = k.val / 4 := by rw [hr]; omega
  have e2 : (S2304x512.row (ix2 k l) * 8 + q) % 32 = 8 * (k.val % 4) + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- THE BYTES UNDER A MASK, signed: the first `b` planes' bits of the word and bit the column meets, less 128. -/
theorem byte_apply (x1 : Vec F S8x72x512 .i32) (b : ℕ) (hb : 3 ≤ b ∧ b ≤ 8) (h : S576x512.Bitcasts 32 S2304x512 8) (k : Fin 2304) (l : Fin 512) :
    (bitcast S2304x512 8 (andi (codes x1) (broadcast S576x512 (mask b))) h (ix2 k l)).toInt
      = weight (fun p => BitVec.getLsbD (x1 (ix3 p (word k) l)) (pos k).val) b - 128 := by
  refine Byte.toInt_masked _ _ b (by omega) fun p => ?_
  rw [bytes_bit _ h k l _ (by omega)]
  show BitVec.getLsbD (codes x1 (ix2 (⟨k.val / 4, by omega⟩ : Fin 576) l) &&& mask b) _ = _
  rw [BitVec.getLsbD_and]
  have hm := mask_bit ⟨b, by omega⟩ ⟨k.val % 4, by omega⟩ p hb.1
  have hc := Swap.code_bit (planes x1 (word k) l) ⟨k.val / 32 % 8, by omega⟩ ⟨7 - p.val, by omega⟩ ⟨k.val % 4, by omega⟩
  have hcode : codes x1 (ix2 (⟨k.val / 4, by omega⟩ : Fin 576) l) = Swap.code (planes x1 (word k) l) ⟨k.val / 32 % 8, by omega⟩ := by
    unfold codes
    congr 1
    · congr 1
      apply Fin.ext; show k.val / 4 / 64 * 8 + k.val / 4 % 8 = k.val / 256 * 8 + k.val / 4 % 8; omega
    · apply Fin.ext; show k.val / 4 / 8 % 8 = k.val / 32 % 8; omega
  rw [hcode]
  refine congrArg₂ _ (hc.trans ?_) hm
  refine congrArg₂ _ ?_ ?_
  · unfold planes
    have : (⟨7 - (7 - p.val), by omega⟩ : Fin 8) = p := Fin.ext (by show 7 - (7 - p.val) = p.val; omega)
    show BitVec.getLsbD (x1 (ix3 (⟨7 - (7 - p.val), _⟩ : Fin 8) (word k) l)) (8 * (k.val % 4) + k.val / 32 % 8) = _
    rw [this]
    exact congrArg _ (by show _ = k.val % 4 * 8 + k.val / 32 % 8; omega)
  · show decide (7 - p.val = 7) = decide (p.val = 0)
    exact decide_eq_decide.2 (by omega)

end Cert.KernelIdeal.Body
end
-- ==== Proof.Block.lean ====
/- What one grid point's body leaves in its output block, at an index: the six widths' masked products, the sum of the row, and the last scaling. -/
module

public import proofs.«01_k».proof.Proof.Field
public import Idealize.ShloMosaic.Lib.MatmulPlain
public import Idealize.ShloMosaic.Lib.ValueLayout

@[expose] public section

set_option maxRecDepth 16384

noncomputable section

namespace Cert.KernelIdeal.Body

open Idealize.ShloMosaic hiding ix0 ix1 ix2 ix3 ix4 ix5 eq_ix2 eq_ix3
open Idealize.ShloMosaic.TcCoe Idealize.ShloMosaic.Tactic Idealize.ShloMosaic.ValueIdx
open Cert.KernelIdeal.Gen
open scoped BigOperators

section Terms

variable {F : FTy → Type} [FloatOps F]

/-- One width's product: the rows of that width, times the signed bytes of the scratch under the width's mask. -/
def term (bits : IVec S1024x1 32) (x : FVec F S1024x2304 .bf16) (q : IVec S576x512 32) (b msk : BitVec 32) : FVec F S1024x512 .f32 :=
  matmul dot_S1024x2304_S2304x512_S1024x512_1_0_0_1_n_n none
    (truncf .bf16 (select (broadcastTo S1024x2304 (cmpi .eq bits (broadcast S1024x1 b)) broadcasts_S1024x1_S1024x2304)
      (extf .f32 x bitsLt_bf16_f32) (broadcast S1024x2304 (Scalar.ofBits .f32 0x00000000#32 : F .f32))) bitsLt_bf16_f32)
    (sitofp .bf16 (bitcast S2304x512 8 (andi q (broadcast S576x512 msk)) bitcasts_S576x512_w32_S2304x512_w8))
    (constant S1024x512 .f32 0x00000000#32)

/-- The six products, added up onto zero in the order of the widths. -/
def acc (bits : IVec S1024x1 32) (x : FVec F S1024x2304 .bf16) (q : IVec S576x512 32) : FVec F S1024x512 .f32 :=
  addf (addf (addf (addf (addf (addf (broadcast S1024x512 (Scalar.ofBits .f32 0x00000000#32 : F .f32))
    (term bits x q 3#32 (mask 3))) (term bits x q 4#32 (mask 4))) (term bits x q 5#32 (mask 5))) (term bits x q 6#32 (mask 6)))
    (term bits x q 7#32 (mask 7))) (term bits x q 8#32 (mask 8))

set_option maxHeartbeats 2000000 in
/-- THE BODY'S BLOCK, by its parts. -/
theorem out_eq (c : Dev nD) (i : grid0.Coords) (arg1 : Memref sig .tc .vmem S1024x2304 .bf16) (harg1 : arg1.IsWhole)
    (arg2 : Memref sig .tc .vmem S8x72x512 .i32) (harg2 : arg2.IsWhole) (arg3 : Memref sig .tc .vmem S1x512 .f32) (harg3 : arg3.IsWhole)
    (arg4 : Memref sig .tc .vmem S1x512 .f32) (harg4 : arg4.IsWhole) (arg5 : Memref sig .tc .vmem S1024x1 .i32) (harg5 : arg5.IsWhole)
    (arg6 : Memref sig .tc .vmem S1024x512 .bf16) (harg6 : arg6.IsWhole) (arg7 : Memref sig .tc .vmem S576x512 .i32) (harg7 : arg7.IsWhole)
    (x0 : Vec F S1024x2304 .bf16) (x1 : Vec F S8x72x512 .i32) (x2 : Vec F S1x512 .f32) (x3 : Vec F S1x512 .f32) (x4 : Vec F S1024x1 .i32) :
    out0_A_5 c i arg1 harg1 arg2 harg2 arg3 harg3 arg4 harg4 arg5 harg5 arg6 harg6 arg7 harg7 x0 x1 x2 x3 x4
      = k0_pay489 (acc x4 x0 (codes x1)) (k0_pay487 x0) (k0_pay488 x4) x2 x3 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  have h0 : (![0, 0] : Fin 2 → ℕ) = fun _ => 0 := by funext a; match a with | ⟨0, _⟩ => rfl | ⟨1, _⟩ => rfl
  rw [View.canon_unit_zero (h := h0)]
  unfold kernelRun0_A.sl.r_8 kernelRun0_A.sl.r_7 kernelRun0_A.sl.r_6 kernelRun0_A.sl.r_5 kernelRun0_A.sl.r_4 kernelRun0_A.sl.r_3
    kernelRun0_A.sl.r_2 kernelRun0_A.sl.r_1
  rw [scratch_eq]
  simp only [View.readAt_eq_ld, harg1.read_unread, harg3.read_unread, harg4.read_unread, harg5.read_unread]
  have e0 := View.ld_unit_zero (Val := Elt F) (e := .bf16) (S := S1024x2304) h0 inb_S1024x2304_S1024x2304_0_0 x0
  have e2 := View.ld_unit_zero (Val := Elt F) (e := .f32) (S := S1x512) h0 inb_S1x512_S1x512_0_0 x2
  have e3 := View.ld_unit_zero (Val := Elt F) (e := .f32) (S := S1x512) h0 inb_S1x512_S1x512_0_0 x3
  have e4 := View.ld_unit_zero (Val := Elt F) (e := .i32) (S := S1024x1) h0 inb_S1024x1_S1024x1_0_0 x4
  rw [e0, e2, e3, e4]
  have m3 : (3772834016#32 : BitVec 32) = mask 3 := by decide
  have m4 : (4042322160#32 : BitVec 32) = mask 4 := by decide
  have m5 : (4177066232#32 : BitVec 32) = mask 5 := by decide
  have m6 : (4244438268#32 : BitVec 32) = mask 6 := by decide
  have m7 : (4278124286#32 : BitVec 32) = mask 7 := by decide
  have m8 : (4294967295#32 : BitVec 32) = mask 8 := by decide
  simp only [k0_pay482, k0_pay483, k0_pay484, k0_pay485, k0_pay486, shapeCast_id, m3, m4, m5, m6, m7, m8]
  rfl

end Terms

/-! ## At the extended reals -/

/-- A finite sum of reals, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A column broadcast over the lanes reads its row. -/
theorem broadcastTo_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem term_apply (bits : IVec S1024x1 32) (x : FVec Ideal S1024x2304 .bf16) (q : IVec S576x512 32) (b msk : BitVec 32) (r : Fin 1024) (l : Fin 512) :
    term bits x q b msk (ix2 r l)
      = ∑ k : Fin 2304, (if bits (ix2 r (0 : Fin 1)) = b then x (ix2 r k) else 0)
          * (((bitcast S2304x512 8 (andi q (broadcast S576x512 msk)) bitcasts_S576x512_w32_S2304x512_w8 (ix2 k l)).toInt : ℝ) : EReal) := by
  refine (Ideal.matmul_plain_apply (M := 1024) (K := 2304) (N := 512) none _ _ _ r l).trans ?_
  rw [show (constant (F := Ideal) S1024x512 .f32 0x00000000#32) (ix2 r l) = (0 : EReal) from Ideal.ofBits_zero_f32, zero_add]
  refine Finset.sum_congr rfl fun k _ => ?_
  refine congrArg₂ _ ?_ rfl
  show Scalar.select (broadcastTo S1024x2304 (cmpi .eq bits (broadcast S1024x1 b)) broadcasts_S1024x1_S1024x2304 (ix2 r k)) (x (ix2 r k))
    (Ideal.ofBits .f32 0x00000000#32) = _
  rw [Ideal.ofBits_zero_f32, broadcastTo_col]
  show (if BitVec.ofBool (bits (ix2 r (0 : Fin 1)) == b) = 1 then x (ix2 r k) else (0 : EReal)) = _
  by_cases h : bits (ix2 r (0 : Fin 1)) = b
  · rw [if_pos h, h, beq_self_eq_true]; rfl
  · rw [if_neg h, beq_eq_false_iff_ne.2 h]; rfl

/-- A product of another width than the row's is zero at the row. -/
theorem term_ne (bits : IVec S1024x1 32) (x : FVec Ideal S1024x2304 .bf16) (q : IVec S576x512 32) (b msk : BitVec 32) (r : Fin 1024) (l : Fin 512)
    (h : bits (ix2 r (0 : Fin 1)) ≠ b) : term bits x q b msk (ix2 r l) = (0 : EReal) := by
  rw [term_apply]
  exact Finset.sum_eq_zero fun k _ => by rw [if_neg h, zero_mul]

/-- The product of the row's width, at finite activations, is the real sum over the columns. -/
theorem term_eq (bits : IVec S1024x1 32) (x : FVec Ideal S1024x2304 .bf16) (x1 : Vec Ideal S8x72x512 .i32) (b : ℕ) (hb : 3 ≤ b ∧ b ≤ 8)
    (r : Fin 1024) (l : Fin 512) (h : bits (ix2 r (0 : Fin 1)) = BitVec.ofNat 32 b) (X : Fin 2304 → ℝ) (hX : ∀ k, x (ix2 r k) = ((X k : ℝ) : EReal)) :
    term bits x (codes x1) (BitVec.ofNat 32 b) (mask b) (ix2 r l)
      = ((∑ k : Fin 2304, X k * ((weight (fun p => BitVec.getLsbD (x1 (ix3 p (word k) l)) (pos k).val) b : ℝ) - 128) : ℝ) : EReal) := by
  rw [term_apply, coe_sum]
  refine Finset.sum_congr rfl fun k _ => ?_
  rw [if_pos h, hX, byte_apply x1 b hb, EReal.coe_mul]
  push_cast
  rfl

/-- The six products at a row of width `b`: that width's alone. -/
theorem acc_eq (bits : IVec S1024x1 32) (x : FVec Ideal S1024x2304 .bf16) (x1 : Vec Ideal S8x72x512 .i32) (b : ℕ) (hb : 3 ≤ b ∧ b ≤ 8)
    (r : Fin 1024) (l : Fin 512) (h : bits (ix2 r (0 : Fin 1)) = BitVec.ofNat 32 b) (X : Fin 2304 → ℝ) (hX : ∀ k, x (ix2 r k) = ((X k : ℝ) : EReal)) :
    acc bits x (codes x1) (ix2 r l)
      = ((∑ k : Fin 2304, X k * ((weight (fun p => BitVec.getLsbD (x1 (ix3 p (word k) l)) (pos k).val) b : ℝ) - 128) : ℝ) : EReal) := by
  rw [← term_eq bits x x1 b hb r l h X hX]
  show ((((((Ideal.ofBits .f32 0x00000000#32 : EReal) + term bits x (codes x1) 3#32 (mask 3) (ix2 r l)) + term bits x (codes x1) 4#32 (mask 4) (ix2 r l))
    + term bits x (codes x1) 5#32 (mask 5) (ix2 r l)) + term bits x (codes x1) 6#32 (mask 6) (ix2 r l))
    + term bits x (codes x1) 7#32 (mask 7) (ix2 r l)) + term bits x (codes x1) 8#32 (mask 8) (ix2 r l) = _
  have z : ∀ b' : ℕ, b' < 9 → b' ≠ b → term bits x (codes x1) (BitVec.ofNat 32 b') (mask b') (ix2 r l) = (0 : EReal) := fun b' h9 hne =>
    term_ne bits x _ _ _ r l (by
      rw [h]; intro e; apply hne
      have := congrArg BitVec.toNat e
      simp only [BitVec.toNat_ofNat] at this
      omega)
  rw [Ideal.ofBits_zero_f32]
  obtain ⟨h3, h8⟩ := hb
  interval_cases b
  · rw [z 4 (by decide) (by decide), z 5 (by decide) (by decide), z 6 (by decide) (by decide), z 7 (by decide) (by decide), z 8 (by decide) (by decide)]
    simp only [zero_add, add_zero]
  · rw [z 3 (by decide) (by decide), z 5 (by decide) (by decide), z 6 (by decide) (by decide), z 7 (by decide) (by decide), z 8 (by decide) (by decide)]
    simp only [zero_add, add_zero]
  · rw [z 3 (by decide) (by decide), z 4 (by decide) (by decide), z 6 (by decide) (by decide), z 7 (by decide) (by decide), z 8 (by decide) (by decide)]
    simp only [zero_add, add_zero]
  · rw [z 3 (by decide) (by decide), z 4 (by decide) (by decide), z 5 (by decide) (by decide), z 7 (by decide) (by decide), z 8 (by decide) (by decide)]
    simp only [zero_add, add_zero]
  · rw [z 3 (by decide) (by decide), z 4 (by decide) (by decide), z 5 (by decide) (by decide), z 6 (by decide) (by decide), z 8 (by decide) (by decide)]
    simp only [zero_add, add_zero]
  · rw [z 3 (by decide) (by decide), z 4 (by decide) (by decide), z 5 (by decide) (by decide), z 6 (by decide) (by decide), z 7 (by decide) (by decide)]
    simp only [zero_add, add_zero]

/-- The sum of a row. -/
theorem sum_eq (x : FVec Ideal S1024x2304 .bf16) (r : Fin 1024) (X : Fin 2304 → ℝ) (hX : ∀ k, x (ix2 r k) = ((X k : ℝ) : EReal)) :
    k0_pay487 x (ix2 r (0 : Fin 1)) = ((∑ k : Fin 2304, X k : ℝ) : EReal) := by
  unfold k0_pay487
  dsimp only
  have e : Shape.reshapeEquiv shapeCasts_S1024_S1024x1 (ix2 r (0 : Fin 1)) = (ix1 r : S1024.Idx) := by
    apply Shape.reshapeEquiv_eq_of_rowMajor
    rw [Shape.rowMajor_val_two, Shape.rowMajor_val_one]
    show r.val = r.val * 1 + 0
    omega
  refine (congrArg (multiReduction (F := Ideal) .add [1] S1024 (extf .f32 x bitsLt_bf16_f32) 0x00000000#32 reduces_S1024x2304_S1024 (.inl rfl) rfl) e).trans ?_
  refine (Ideal.multiReduction_add_single _ _ _ _ _ _).trans ?_
  rw [coe_sum]
  refine Finset.sum_congr rfl fun k _ => ?_
  refine (congrArg x ?_).trans (hX k)
  funext a
  match a with
  | ⟨0, _⟩ => exact Fin.ext rfl
  | ⟨1, _⟩ => exact Fin.ext rfl

/-- The middle of the range of a width's dropped planes. -/
def half (b : ℕ) : ℝ := ((2 : ℝ) ^ (8 - b) - 1) / 2

theorem half_eq (bits : IVec S1024x1 32) (b : ℕ) (hb : 3 ≤ b ∧ b ≤ 8) (r : Fin 1024) (h : bits (ix2 r (0 : Fin 1)) = BitVec.ofNat 32 b) :
    k0_pay488 (F := Ideal) bits (ix2 r (0 : Fin 1)) = ((half b : ℝ) : EReal) := by
  have c : Ideal.ofBits .f32 0x3F000000#32 = (((1 / 2 : ℝ) : ℝ) : EReal) := by simp [Ideal.ofBits, Ideal.ieee, -EReal.coe_mul]; norm_num
  show (((IntOp.subi (IntOp.shli .vector 1#32 (IntOp.subi 8#32 (bits (ix2 r (0 : Fin 1))))) 1#32).toInt : ℝ) : EReal)
    * Ideal.ofBits .f32 0x3F000000#32 = _
  rw [c, h, ← EReal.coe_mul]
  have e : (IntOp.subi (IntOp.shli .vector 1#32 (IntOp.subi 8#32 (BitVec.ofNat 32 b))) 1#32).toInt = 2 ^ (8 - b) - 1 := by
    obtain ⟨h3, h8⟩ := hb
    interval_cases b <;> decide
  rw [e]
  exact congrArg Real.toEReal (by unfold half; push_cast; ring)

/-- THE BODY'S BLOCK AT AN INDEX, at a row of width `b` and finite activations. -/
theorem out_apply (x0 : Vec Ideal S1024x2304 .bf16) (x1 : Vec Ideal S8x72x512 .i32) (x2 x3 : Vec Ideal S1x512 .f32) (x4 : Vec Ideal S1024x1 .i32)
    (b : ℕ) (hb : 3 ≤ b ∧ b ≤ 8) (r : Fin 1024) (l : Fin 512) (h : x4 (ix2 r (0 : Fin 1)) = BitVec.ofNat 32 b)
    (X : Fin 2304 → ℝ) (hX : ∀ k, x0 (ix2 r k) = ((X k : ℝ) : EReal)) :
    k0_pay489 (acc x4 x0 (codes x1)) (k0_pay487 x0) (k0_pay488 x4) x2 x3 (ix2 r l)
      = (x2 (ix2 (0 : Fin 1) l) : EReal)
        * (((∑ k : Fin 2304, X k * ((weight (fun p => BitVec.getLsbD (x1 (ix3 p (word k) l)) (pos k).val) b : ℝ) - 128) : ℝ) : EReal)
          + (((half b : ℝ) : EReal) + ((128 : ℝ) : EReal) - (x3 (ix2 (0 : Fin 1) l) : EReal)) * ((∑ k : Fin 2304, X k : ℝ) : EReal)) := by
  have c : Ideal.ofBits .f32 0x43000000#32 = ((128 : ℝ) : EReal) := by simp [Ideal.ofBits, Ideal.ieee, -EReal.coe_mul]; norm_num
  rw [← acc_eq x4 x0 x1 b hb r l h X hX, ← sum_eq x0 r X hX, ← half_eq x4 b hb r h, ← c]
  unfold k0_pay489
  simp only [shapeCast_id]
  show (broadcastTo S1024x512 x2 broadcasts_S1x512_S1024x512 (ix2 r l) : EReal) * (acc (F := Ideal) x4 x0 (codes x1) (ix2 r l)
    + (broadcastTo S1024x512 (addf (k0_pay488 (F := Ideal) x4) (broadcast S1024x1 (Scalar.ofBits .f32 0x43000000#32 : Ideal .f32))) broadcasts_S1024x1_S1024x512 (ix2 r l)
      - broadcastTo S1024x512 x3 broadcasts_S1x512_S1024x512 (ix2 r l)) * (broadcastTo S1024x512 (k0_pay487 (F := Ideal) x0) broadcasts_S1024x1_S1024x512 (ix2 r l) : EReal)) = _
  rw [broadcastTo_col, broadcastTo_col, broadcastTo_1b_ab_apply, broadcastTo_1b_ab_apply]
  rfl

end Cert.KernelIdeal.Body
end
-- ==== Proof.Array.lean ====
/- The result array after the run as one function of the arrays the body reads: its eighteen blocks of 512 lanes put side by side. -/
module

public import proofs.«01_k».proof.Proof.Block

@[expose] public section

set_option maxRecDepth 16384

noncomputable section

namespace Cert.KernelIdeal.Body

open Idealize.ShloMosaic hiding ix0 ix1 ix2 ix3 ix4 ix5 eq_ix2 eq_ix3
open Idealize.ShloMosaic.TcCoe Idealize.ShloMosaic.Tactic Idealize.ShloMosaic.ValueIdx Idealize.SL.Sem
open Cert.KernelIdeal.Gen
open Idealize.ShloMosaic.Pipeline (Dat)

variable {F : FTy → Type} [FloatOps F]

/-- The lanes of block `t`. -/
theorem lane_lt (t : Fin 18) (l : Fin 512) : t.val * 512 + l.val < 9216 := by omega
def lane (t : Fin 18) (l : Fin 512) : Fin 9216 := ⟨t.val * 512 + l.val, lane_lt t l⟩

/-- A block of the planes, and of a row over the lanes. -/
def cutPlanes (p : Vec F S8x72x9216 .i32) (t : Fin 18) : Vec F S8x72x512 .i32 := fun j =>
  p (ix3 (j 0 : Fin 8) (j 1 : Fin 72) (lane t (j 2)))
def cutRow (s : Vec F S1x9216 .f32) (t : Fin 18) : Vec F S1x512 .f32 := fun j => s (ix2 (j 0 : Fin 1) (lane t (j 1)))

/-- The result array, from the permuted activations, the planes, the two rows and the column of widths. -/
def whole (x : Vec F S1024x2304 .bf16) (p : Vec F S8x72x9216 .i32) (s z : Vec F S1x9216 .f32) (b : Vec F S1024x1 .i32) : Vec F S1024x9216 .bf16 := fun i =>
  k0_pay489 (acc b x (codes (cutPlanes p ⟨(i 1).val / 512, by have := idx2_lt1 i; omega⟩))) (k0_pay487 x) (k0_pay488 b)
    (cutRow s ⟨(i 1).val / 512, by have := idx2_lt1 i; omega⟩) (cutRow z ⟨(i 1).val / 512, by have := idx2_lt1 i; omega⟩)
    (ix2 (i 0 : Fin 1024) (⟨(i 1).val % 512, by omega⟩ : Fin 512))

theorem whole_apply (x : Vec F S1024x2304 .bf16) (p : Vec F S8x72x9216 .i32) (s z : Vec F S1x9216 .f32) (b : Vec F S1024x1 .i32)
    (t : Fin 18) (r : Fin 1024) (l : Fin 512) :
    whole x p s z b (ix2 r (lane t l))
      = k0_pay489 (acc b x (codes (cutPlanes p t))) (k0_pay487 x) (k0_pay488 b) (cutRow s t) (cutRow z t) (ix2 r l) := by
  have h1 : (⟨(lane t l).val / 512, by have := (lane t l).isLt; omega⟩ : Fin 18) = t := Fin.ext (by show (t.val * 512 + l.val) / 512 = t.val; omega)
  have h2 : (⟨(lane t l).val % 512, by omega⟩ : Fin 512) = l := Fin.ext (by show (t.val * 512 + l.val) % 512 = l.val; omega)
  show k0_pay489 (acc b x (codes (cutPlanes p ⟨(lane t l).val / 512, _⟩))) (k0_pay487 x) (k0_pay488 b)
    (cutRow s ⟨(lane t l).val / 512, _⟩) (cutRow z ⟨(lane t l).val / 512, _⟩) (ix2 r (⟨(lane t l).val % 512, _⟩ : Fin 512)) = _
  rw [h1, h2]

variable (m : (ℓ : Loc nD τ sig) → Buf (Elt F) ℓ) (ρ : Dev nD → PrngReg)

/-- A grid point's number. -/
def pt (t : Fin cfg0.N) : Fin 18 := ⟨t.val, lt_of_lt_of_eq t.isLt N_0⟩

/-- Each window's block indices at the grid points. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)

theorem emb0 (t : Fin cfg0.N) (j : S1024x2304.Idx) : ((cfg0.win 0).blk t).view.emb j = j := by
  obtain ⟨e0, e1⟩ := idx0 t
  funext a; apply Fin.ext
  match a with
  | ⟨0, _⟩ => show win0_0.index t (0 : Fin 2) * 1024 + 1 * (j 0).val = (j 0).val; omega
  | ⟨1, _⟩ => show win0_0.index t (1 : Fin 2) * 2304 + 1 * (j 1).val = (j 1).val; omega

theorem emb4 (t : Fin cfg0.N) (j : S1024x1.Idx) : ((cfg0.win 4).blk t).view.emb j = j := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 1 + 1 * (j 1).val = (j 1).val; omega

theorem emb1 (t : Fin cfg0.N) (j : S8x72x512.Idx) :
    ((cfg0.win 1).blk t).view.emb j = (ix3 (j 0 : Fin 8) (j 1 : Fin 72) (lane (pt t) (j 2)) : S8x72x9216.Idx) := by
  obtain ⟨e0, e1, e2⟩ := idx1 t
  funext a; apply Fin.ext
  match a with
  | ⟨0, _⟩ => show win0_1.index t (0 : Fin 3) * 8 + 1 * (j 0).val = (j 0).val; omega
  | ⟨1, _⟩ => show win0_1.index t (1 : Fin 3) * 72 + 1 * (j 1).val = (j 1).val; omega
  | ⟨2, _⟩ => show win0_1.index t (2 : Fin 3) * 512 + 1 * (j 2).val = t.val * 512 + (j 2).val; omega

theorem emb2 (t : Fin cfg0.N) (j : S1x512.Idx) : ((cfg0.win 2).blk t).view.emb j = (ix2 (j 0 : Fin 1) (lane (pt t) (j 1)) : S1x9216.Idx) := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 512 + 1 * (j 1).val = t.val * 512 + (j 1).val; omega

theorem emb3 (t : Fin cfg0.N) (j : S1x512.Idx) : ((cfg0.win 3).blk t).view.emb j = (ix2 (j 0 : Fin 1) (lane (pt t) (j 1)) : S1x9216.Idx) := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = t.val * 512 + (j 1).val; omega

theorem emb5 (t : Fin cfg0.N) (j : S1024x512.Idx) : ((cfg0.win 5).blk t).view.emb j = (ix2 (j 0 : Fin 1024) (lane (pt t) (j 1)) : S1024x9216.Idx) := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 512 + 1 * (j 1).val = t.val * 512 + (j 1).val; omega

theorem iblk0_eq (c : Dev nD) (t : Fin cfg0.N) : iblk m c 0 t = V m c main_v2 := by
  funext j; show V m c main_v2 (((cfg0.win 0).blk t).view.emb j) = V m c main_v2 j; rw [emb0]
theorem iblk4_eq (c : Dev nD) (t : Fin cfg0.N) : iblk m c 4 t = V m c main_v5 := by
  funext j; show V m c main_v5 (((cfg0.win 4).blk t).view.emb j) = V m c main_v5 j; rw [emb4]
theorem iblk1_eq (c : Dev nD) (t : Fin cfg0.N) : iblk m c 1 t = cutPlanes (V m c main_arg1) (pt t) := by
  funext j; show V m c main_arg1 (((cfg0.win 1).blk t).view.emb j) = _; rw [emb1]; rfl
theorem iblk2_eq (c : Dev nD) (t : Fin cfg0.N) : iblk m c 2 t = cutRow (V m c main_v3) (pt t) := by
  funext j; show V m c main_v3 (((cfg0.win 2).blk t).view.emb j) = _; rw [emb2]; rfl
theorem iblk3_eq (c : Dev nD) (t : Fin cfg0.N) : iblk m c 3 t = cutRow (V m c main_v4) (pt t) := by
  funext j; show V m c main_v4 (((cfg0.win 3).blk t).view.emb j) = _; rw [emb3]; rfl

/-- The result array's contents after the run, from the arrays as the grid finds them. -/
abbrev result (c : Dev nD) : Vec F S1024x9216 .bf16 :=
  whole (V m c main_v2) (V m c main_arg1) (V m c main_v3) (V m c main_v4) (V m c main_v5)

/-- What grid point `t` writes back is its block of that array. -/
theorem flushed_eq (c : Dev nD) (t : Fin cfg0.N) :
    (dats m 0 c).flushed 5 t = ((cfg0.win 5).blk t).view.read (Elt F) (result m c) := by
  rw [Value.flushed5_A, out_eq, iblk0_eq, iblk1_eq, iblk2_eq, iblk3_eq, iblk4_eq]
  funext j
  show k0_pay489 _ _ _ _ _ j = result m c (((cfg0.win 5).blk t).view.emb j)
  rw [emb5]
  refine Eq.trans ?_ (whole_apply _ _ _ _ _ (pt t) (j 0) (j 1)).symm
  exact congrArg _ (eq_ix2 j)

theorem lane_onto (n : Fin 9216) : ∃ (t : Fin 18) (l : Fin 512), n = lane t l :=
  ⟨⟨n.val / 512, by omega⟩, ⟨n.val % 512, by omega⟩, Fin.ext (by show n.val = n.val / 512 * 512 + n.val % 512; omega)⟩

/-- The blocks cover the array. -/
theorem cover (i : S1024x9216.Idx) : ∃ t : Fin cfg0.N, (cfg0.win 5).flush t = true ∧ i ∈ ((cfg0.win 5).blk t).view.set := by
  obtain ⟨r, n, rfl⟩ : ∃ (r : Fin 1024) (n : Fin 9216), i = ix2 r n := ⟨i 0, i 1, eq_ix2 i⟩
  obtain ⟨t, l, rfl⟩ := lane_onto n
  let u : Fin cfg0.N := ⟨t.val, lt_of_lt_of_eq t.isLt N_0.symm⟩
  refine ⟨u, flush0_5 u, ?_⟩
  have h := ((cfg0.win 5).blk u).view.emb_mem_set (ix2 r l : S1024x512.Idx)
  rw [emb5 u (ix2 r l)] at h
  exact h

theorem final (c : Dev nD) : (dats m 0 c).arrAt 5 cfg0.N = result m c :=
  (dats m 0 c).arrAt_eq_of_cover 5 (result m c) (fun t _ => flushed_eq m c t) cover

end Cert.KernelIdeal.Body
end
-- ==== Proof.Host.lean ====
/- The arrays the grid finds, at an index, from the arguments: the activations with their columns permuted, and the rows and the column of
   widths as they were given. -/
module

public import proofs.«01_k».proof.Proof.Array
public import Idealize.ShloMosaic.Lib.Pipeline.Value
public import Idealize.ShloMosaic.Lib.StableHlo.Run

@[expose] public section

set_option maxRecDepth 16384

noncomputable section

namespace Cert.KernelIdeal.Body

open Idealize.ShloMosaic hiding ix0 ix1 ix2 ix3 ix4 ix5 eq_ix2 eq_ix3
open Idealize.ShloMosaic.TcCoe Idealize.ShloMosaic.Tactic Idealize.ShloMosaic.ValueIdx Idealize.SL.Sem Idealize.ShloMosaic.StableHlo
open Cert.KernelIdeal.Gen

variable {F : FTy → Type} [FloatOps F]

variable (m : (ℓ : Loc nD τ sig) → Buf (Elt F) ℓ)

/-- The activation a word row and a bit of the word stand for. -/
def col (w : Fin 72) (j : Fin 32) : Fin 2304 := ⟨w.val * 32 + j.val, by omega⟩

theorem V_main_v2 (c : Dev nD) : V m c main_v2
    = shapeCast S1024x2304 (transpose S1024x9x8x8x4 [0, 1, 4, 2, 3] (shapeCast S1024x9x8x4x8 (m ((c.tc : Thread nD τ).loc main_arg0))
        shapeCasts_S1024x1x2304_S1024x9x8x4x8) transposes_S1024x9x8x4x8_S1024x9x8x8x4_0_1_4_2_3) shapeCasts_S1024x9x8x8x4_S1024x2304 := by
  dsimp only [V, hostOps0]; after_results; rfl

theorem V_main_v3 (c : Dev nD) : V m c main_v3 = shapeCast S1x9216 (m ((c.tc : Thread nD τ).loc main_arg2)) shapeCasts_S9216_S1x9216 := by
  dsimp only [V, hostOps0]; after_results; rfl

theorem V_main_v4 (c : Dev nD) : V m c main_v4 = shapeCast S1x9216 (m ((c.tc : Thread nD τ).loc main_arg3)) shapeCasts_S9216_S1x9216 := by
  dsimp only [V, hostOps0]; after_results; rfl

theorem V_main_v5 (c : Dev nD) : V m c main_v5 = shapeCast S1024x1 (m ((c.tc : Thread nD τ).loc main_arg4)) shapeCasts_S1024_S1024x1 := by
  dsimp only [V, hostOps0]; after_results; rfl

theorem permuted_apply {α : Type} (x : S1024x1x2304.Idx → α) (r : Fin 1024) (k : Fin 2304) :
    shapeCast S1024x2304 (transpose S1024x9x8x8x4 [0, 1, 4, 2, 3] (shapeCast S1024x9x8x4x8 x shapeCasts_S1024x1x2304_S1024x9x8x4x8)
        transposes_S1024x9x8x4x8_S1024x9x8x8x4_0_1_4_2_3) shapeCasts_S1024x9x8x8x4_S1024x2304 (ix2 r k)
      = x (ix3 r (0 : Fin 1) (col (word k) (pos k))) := by
  have hr := r.isLt; have hk := k.isLt
  rw [shapeCast_apply _ shapeCasts_S1024x9x8x8x4_S1024x2304 (ix2 r k)
    (ix5 r (⟨k.val / 256, by omega⟩ : Fin 9) (⟨k.val / 32 % 8, by omega⟩ : Fin 8) (⟨k.val / 4 % 8, by omega⟩ : Fin 8) (⟨k.val % 4, by omega⟩ : Fin 4)) (by
      rw [Shape.rowMajor_val_five, Shape.rowMajor_val_two]
      show (((r.val * 9 + k.val / 256) * 8 + k.val / 32 % 8) * 8 + k.val / 4 % 8) * 4 + k.val % 4 = r.val * 2304 + k.val
      omega)]
  rw [transpose_apply [0, 1, 4, 2, 3] _ transposes_S1024x9x8x4x8_S1024x9x8x8x4_0_1_4_2_3 _
    (ix5 r (⟨k.val / 256, by omega⟩ : Fin 9) (⟨k.val / 4 % 8, by omega⟩ : Fin 8) (⟨k.val % 4, by omega⟩ : Fin 4) (⟨k.val / 32 % 8, by omega⟩ : Fin 8)) (fun b => match b with
    | ⟨0, _⟩ => rfl
    | ⟨1, _⟩ => rfl
    | ⟨2, _⟩ => rfl
    | ⟨3, _⟩ => rfl
    | ⟨4, _⟩ => rfl)]
  exact shapeCast_apply x shapeCasts_S1024x1x2304_S1024x9x8x4x8 _ _ (by
      rw [Shape.rowMajor_val_five, Shape.rowMajor_val_three]
      show (r.val * 1 + 0) * 2304 + ((k.val / 256 * 8 + k.val / 4 % 8) * 32 + (k.val % 4 * 8 + k.val / 32 % 8))
        = (((r.val * 9 + k.val / 256) * 8 + k.val / 4 % 8) * 4 + k.val % 4) * 8 + k.val / 32 % 8
      omega)

theorem row_apply {α : Type} (x : S9216.Idx → α) (n : Fin 9216) : shapeCast S1x9216 x shapeCasts_S9216_S1x9216 (ix2 (0 : Fin 1) n) = x (ix1 n) :=
  shapeCast_apply x shapeCasts_S9216_S1x9216 _ _ (by
    rw [Shape.rowMajor_val_one, Shape.rowMajor_val_two]; show n.val = 0 * 9216 + n.val; omega)

theorem column_apply {α : Type} (x : S1024.Idx → α) (r : Fin 1024) : shapeCast S1024x1 x shapeCasts_S1024_S1024x1 (ix2 r (0 : Fin 1)) = x (ix1 r) :=
  shapeCast_apply x shapeCasts_S1024_S1024x1 _ _ (by
    rw [Shape.rowMajor_val_one, Shape.rowMajor_val_two]; show r.val = r.val * 1 + 0; omega)

end Cert.KernelIdeal.Body
end
-- ==== Proof.Equation.lean ====
/- The sums of the two programs against one another: the columns reordered, the planes' weights taken out of the codes' sum, and the 128 the
   codes are less by put back against the 128 the centre is more by. -/
module

public import proofs.«01_k».proof.Proof.Host
public import Mathlib.Algebra.BigOperators.Fin
public import Mathlib.Data.EReal.Operations

@[expose] public section

noncomputable section

namespace Cert.KernelIdeal.Body

open scoped BigOperators

/-- A column as its four digits, and the digits of a column so made. -/
theorem digits (k : ℕ) : k / 256 * 256 + k / 32 % 8 * 32 + k / 4 % 8 * 4 + k % 4 = k := by
  have h1 : k / 32 = k / 4 / 8 := by omega
  have h2 : k / 256 = k / 32 / 8 := by omega
  omega

theorem digits_of (a m i q : ℕ) (hm : m < 8) (hi : i < 8) (hq : q < 4) :
    (a * 256 + m * 32 + i * 4 + q) % 4 = q ∧ (a * 256 + m * 32 + i * 4 + q) / 4 % 8 = i ∧ (a * 256 + m * 32 + i * 4 + q) / 32 % 8 = m
      ∧ (a * 256 + m * 32 + i * 4 + q) / 256 = a := by
  have h1 : (a * 256 + m * 32 + i * 4 + q) / 4 = a * 64 + m * 8 + i := by omega
  have h2 : (a * 256 + m * 32 + i * 4 + q) / 32 = a * 8 + m := by omega
  refine ⟨by omega, ?_, ?_, by omega⟩
  · rw [h1]; omega
  · rw [h2]; omega

/-- The kernel's columns are the words' bits, each once. -/
def split : Fin 2304 ≃ Fin 32 × Fin 72 where
  toFun k := (pos k, word k)
  invFun q := ⟨q.2.val / 8 * 256 + q.1.val % 8 * 32 + q.2.val % 8 * 4 + q.1.val / 8, by have := q.1.isLt; have := q.2.isLt; omega⟩
  left_inv k := Fin.ext (by
    show (k.val / 256 * 8 + k.val / 4 % 8) / 8 * 256 + (k.val % 4 * 8 + k.val / 32 % 8) % 8 * 32 + (k.val / 256 * 8 + k.val / 4 % 8) % 8 * 4
      + (k.val % 4 * 8 + k.val / 32 % 8) / 8 = k.val
    have e : ∀ a c : ℕ, c < 8 → (a * 8 + c) / 8 = a ∧ (a * 8 + c) % 8 = c := fun a c h => by omega
    rw [(e _ _ (Nat.mod_lt _ (by decide))).1, (e _ _ (Nat.mod_lt _ (by decide))).2, (e _ _ (Nat.mod_lt _ (by decide))).1, (e _ _ (Nat.mod_lt _ (by decide))).2]
    exact digits k.val)
  right_inv q := by
    obtain ⟨j, w⟩ := q
    have hj := j.isLt; have hw := w.isLt
    obtain ⟨e1, e2, e3, e4⟩ := digits_of (w.val / 8) (j.val % 8) (w.val % 8) (j.val / 8) (by omega) (by omega) (by omega)
    refine Prod.ext (Fin.ext ?_) (Fin.ext ?_)
    · show (w.val / 8 * 256 + j.val % 8 * 32 + w.val % 8 * 4 + j.val / 8) % 4 * 8 + (w.val / 8 * 256 + j.val % 8 * 32 + w.val % 8 * 4 + j.val / 8) / 32 % 8 = j.val
      rw [e1, e3]; omega
    · show (w.val / 8 * 256 + j.val % 8 * 32 + w.val % 8 * 4 + j.val / 8) / 256 * 8 + (w.val / 8 * 256 + j.val % 8 * 32 + w.val % 8 * 4 + j.val / 8) / 4 % 8 = w.val
      rw [e4, e2]; omega

/-- So are the reference's. -/
def joined : Fin 2304 ≃ Fin 32 × Fin 72 where
  toFun k := (⟨k.val % 32, by omega⟩, ⟨k.val / 32, by omega⟩)
  invFun q := col q.2 q.1
  left_inv k := Fin.ext (by show k.val / 32 * 32 + k.val % 32 = k.val; omega)
  right_inv q := by
    obtain ⟨j, w⟩ := q
    have hj := j.isLt
    refine Prod.ext (Fin.ext ?_) (Fin.ext ?_)
    · show (w.val * 32 + j.val) % 32 = j.val; omega
    · show (w.val * 32 + j.val) / 32 = w.val; omega

theorem sum_split (f : Fin 32 → Fin 72 → ℝ) : ∑ k, f (pos k) (word k) = ∑ j, ∑ w, f j w := by
  rw [← Fintype.sum_prod_type' f]
  exact Equiv.sum_comp split (fun q : Fin 32 × Fin 72 => f q.1 q.2)

theorem sum_perm (X : Fin 2304 → ℝ) : ∑ k, X (col (word k) (pos k)) = ∑ k, X k := by
  rw [sum_split (fun j w => X (col w j)), ← Fintype.sum_prod_type' (fun j w => X (col w j))]
  exact Equiv.sum_comp joined.symm X

/-- A plane's weight in a row of width `b`. -/
def coef (b : ℕ) (p : Fin 8) : ℝ := if p.val < b then 2 ^ (7 - p.val) else 0

/-- The codes' sum, plane by plane. -/
theorem codes_sum (X : Fin 2304 → ℝ) (u : Fin 8 → Fin 72 → Fin 32 → Bool) (b : ℕ) :
    ∑ k, X (col (word k) (pos k)) * ((weight (fun p => u p (word k) (pos k)) b : ℝ) - 128)
      = (∑ p : Fin 8, coef b p * ∑ j : Fin 32, ∑ w : Fin 72, ((u p w j).toNat : ℝ) * X (col w j)) - 128 * ∑ k, X k := by
  have hw : ∀ k, X (col (word k) (pos k)) * ((weight (fun p => u p (word k) (pos k)) b : ℝ) - 128)
      = (∑ p : Fin 8, coef b p * (((u p (word k) (pos k)).toNat : ℝ) * X (col (word k) (pos k)))) - 128 * X (col (word k) (pos k)) := fun k => by
    have e : (weight (fun p => u p (word k) (pos k)) b : ℝ) = ∑ p : Fin 8, coef b p * ((u p (word k) (pos k)).toNat : ℝ) := by
      unfold weight coef
      push_cast
      refine Finset.sum_congr rfl fun p _ => ?_
      split <;> simp
    rw [e, mul_sub, Finset.mul_sum]
    congr 1
    · exact Finset.sum_congr rfl fun p _ => by ring
    · ring
  rw [Finset.sum_congr rfl fun k _ => hw k, Finset.sum_sub_distrib, ← Finset.mul_sum, sum_perm, Finset.sum_comm]
  congr 1
  refine Finset.sum_congr rfl fun p _ => ?_
  rw [← Finset.mul_sum, sum_split (fun j w => ((u p w j).toNat : ℝ) * X (col w j))]

/-- The two centres' distances apart by `d`, over a zero point of any value, the infinite ones too. -/
theorem centre_shift (a c d S : ℝ) (z : EReal) :
    (((a - d * S : ℝ) : ℝ) : EReal) + ((c : EReal) + (d : EReal) - z) * (S : EReal) = (a : EReal) + ((c : EReal) - z) * (S : EReal) := by
  rw [← EReal.coe_add]
  have key : ∀ t : EReal, t = ⊤ ∨ t = ⊥ → (((a - d * S : ℝ) : ℝ) : EReal) + t * (S : EReal) = (a : EReal) + t * (S : EReal) := by
    intro t ht
    rcases lt_trichotomy S 0 with h | h | h
    · rcases ht with rfl | rfl
      · rw [EReal.top_mul_coe_of_neg h, EReal.add_bot, EReal.add_bot]
      · rw [EReal.bot_mul_coe_of_neg h, EReal.coe_add_top, EReal.coe_add_top]
    · subst h; simp
    · rcases ht with rfl | rfl
      · rw [EReal.top_mul_coe_of_pos h, EReal.coe_add_top, EReal.coe_add_top]
      · rw [EReal.bot_mul_coe_of_pos h, EReal.add_bot, EReal.add_bot]
  induction z with
  | bot => rw [EReal.coe_sub_bot, EReal.coe_sub_bot]; exact key ⊤ (.inl rfl)
  | top => rw [EReal.sub_top, EReal.sub_top]; exact key ⊥ (.inr rfl)
  | coe z =>
    rw [← EReal.coe_sub, ← EReal.coe_sub, ← EReal.coe_mul, ← EReal.coe_mul, ← EReal.coe_add, ← EReal.coe_add]
    exact congrArg Real.toEReal (by ring)

end Cert.KernelIdeal.Body
end
-- ==== Proof.RefValue.lean ====
/- The reference's result at an index: the planes' sums under their weights, the row's sum times the distance of the two centres, the scale. -/
module

public import proofs.«01_k».proof.Proof.Gen.ReferenceIdeal.Read
public import proofs.«01_k».proof.Proof.Equation
public import Idealize.ShloMosaic.Lib.TwoAxisContraction
public import Idealize.ShloMosaic.Lib.IdealHost
public import Idealize.ShloMosaic.Lib.Pointwise.Reduce

@[expose] public section

set_option maxRecDepth 16384

noncomputable section

namespace Cert.ReferenceIdeal.RefValue

open Idealize.ShloMosaic hiding ix0 ix1 ix2 ix3 ix4 ix5 eq_ix2 eq_ix3
open Idealize.ShloMosaic.TcCoe Idealize.ShloMosaic.ValueIdx
open Cert.ReferenceIdeal Cert.ReferenceIdeal.Gen Cert.ReferenceIdeal.Read
open Cert.KernelIdeal.Body (half col coef)
open scoped BigOperators

/-- Shifted right by `j` and masked to one bit, a word is its bit `j`. -/
theorem bit_eq (x : BitVec 32) (j : Fin 32) :
    (IntOp.andi (IntOp.shrsi .host x (BitVec.ofNat 32 j.val)) 1#32).toInt = ((x.getLsbD j.val).toNat : ℤ) := by
  have hj : (BitVec.ofNat 32 j.val).toNat = j.val := by rw [BitVec.toNat_ofNat]; omega
  have e : IntOp.andi (IntOp.shrsi .host x (BitVec.ofNat 32 j.val)) 1#32 = if x.getLsbD j.val then 1#32 else 0#32 := by
    unfold IntOp.andi IntOp.shrsi
    rw [hj, if_pos j.isLt, BitVec.sshiftRight', hj]
    apply BitVec.eq_of_getLsbD_eq
    intro i hi
    rw [BitVec.getLsbD_and, BitVec.getLsbD_sshiftRight]
    by_cases h0 : i = 0
    · subst h0
      cases hx : x.getLsbD j.val <;> simp [hx]
    · have h1 : (1#32).getLsbD i = false := by simp [BitVec.getLsbD_one, h0]
      rw [h1, Bool.and_false]
      split
      · exact h1.symm
      · simp
  rw [e]
  cases x.getLsbD j.val <;> rfl

theorem weight_bits : ∀ p : Fin 8, (IntOp.shli .host 1#32 (IntOp.subi 7#32 (BitVec.ofNat 32 p.val))).toInt = 2 ^ (7 - p.val) := by decide

theorem coef_eq (x4 : (⟨S1024, .i32⟩ : BufTy).Contents (Elt Ideal)) (b : ℕ) (hb : 3 ≤ b ∧ b ≤ 8) (r : Fin 1024) (h : x4 (ix1 r) = BitVec.ofNat 32 b) (p : Fin 8) :
    val_main_v24 (F := Ideal) x4 (ix2 r p) = ((coef b p : ℝ) : EReal) := by
  have hc : val_main_v22 (F := Ideal) x4 (ix2 r p) = IntOp.cmpi .slt (BitVec.ofNat 32 p.val) (BitVec.ofNat 32 b) := by
    rw [val_main_v22_apply, val_main_v20_apply, val_main_v18_apply, val_main_v12_apply, val_main_v21_apply, val_main_v19_apply, ← h]
    refine congrArg₂ _ rfl (congrArg x4 ?_)
    funext a; match a with | ⟨0, _⟩ => rfl
  have hw : val_main_call0_v0 (F := Ideal) (ix2 r p) = (((2 ^ (7 - p.val) : ℝ) : ℝ) : EReal) := by
    rw [val_main_call0_v0_apply, val_main_v23_apply, val_main_v17_apply, val_main_v16_apply, val_main_v15_apply, val_main_c_1_apply, val_main_v14_apply,
      val_main_v13_apply, val_main_c_0_apply, val_main_v12_apply]
    show (((IntOp.shli .host 1#32 (IntOp.subi 7#32 (BitVec.ofNat 32 p.val))).toInt : ℝ) : EReal) = _
    rw [weight_bits p]
    norm_num
  have hz : val_main_call0_v1 (F := Ideal) (ix2 r p) = ((0 : ℝ) : EReal) := by
    rw [val_main_call0_v1_apply, val_main_cst_apply]
    exact Ideal.ofBits_zero_f32
  have hd : ∀ (b' : Fin 9) (p : Fin 8), IntOp.cmpi .slt (BitVec.ofNat 32 p.val) (BitVec.ofNat 32 b'.val) = if p.val < b'.val then 1#1 else 0#1 := by decide +kernel
  have hd' := hd ⟨b, by omega⟩ p
  rw [val_main_v24_apply, hc, hw, hz]
  unfold coef
  by_cases hp : p.val < b
  · rw [if_pos hp]; rw [show IntOp.cmpi .slt (BitVec.ofNat 32 p.val) (BitVec.ofNat 32 b) = 1#1 from hd'.trans (if_pos hp)]; rfl
  · rw [if_neg hp]; rw [show IntOp.cmpi .slt (BitVec.ofNat 32 p.val) (BitVec.ofNat 32 b) = 0#1 from hd'.trans (if_neg hp)]; rfl

theorem bits_eq (x1 : (⟨S8x72x9216, .i32⟩ : BufTy).Contents (Elt Ideal)) (p : Fin 8) (w : Fin 72) (j : Fin 32) (n : Fin 9216) :
    val_main_v8 (F := Ideal) x1 (ix4 p w j n) = ((((BitVec.getLsbD (x1 (ix3 p w n)) j.val).toNat : ℝ) : ℝ) : EReal) := by
  rw [val_main_v8_apply, val_main_v7_apply, val_main_v6_apply, val_main_c_apply, val_main_v5_apply, val_main_v4_apply, val_main_v1_apply, val_main_v0_apply,
    val_main_v3_apply, val_main_v2_apply]
  have e : idx_main_v2 (idx_main_v3 (ix4 p w j n)) = ix3 p w n := by
    funext a; match a with | ⟨0, _⟩ => rfl | ⟨1, _⟩ => rfl | ⟨2, _⟩ => rfl
  rw [e]
  show (((IntOp.andi (IntOp.shrsi .host (x1 (ix3 p w n)) (BitVec.ofNat 32 j.val)) 1#32).toInt : ℝ) : EReal) = _
  rw [bit_eq]
  norm_num

theorem act_eq (x0 : (⟨S1024x1x2304, .bf16⟩ : BufTy).Contents (Elt Ideal)) (r : Fin 1024) (w : Fin 72) (j : Fin 32) :
    val_main_v9 (F := Ideal) x0 (ix3 r w j) = x0 (ix3 r (0 : Fin 1) (col w j)) := by
  rw [val_main_v9_apply]
  refine congrArg x0 ?_
  have hr := r.isLt; have hw := w.isLt; have hj := j.isLt
  funext a
  match a with
  | ⟨0, _⟩ => exact Fin.ext (by show ((r.val * 72 + w.val) * 32 + j.val) / 2304 = r.val; omega)
  | ⟨1, _⟩ => rfl
  | ⟨2, _⟩ => exact Fin.ext (by show ((r.val * 72 + w.val) * 32 + j.val) % 2304 = w.val * 32 + j.val; omega)

/-- A plane's product at a row and a lane. -/
theorem plane_eq (x0 : (⟨S1024x1x2304, .bf16⟩ : BufTy).Contents (Elt Ideal)) (x1 : (⟨S8x72x9216, .i32⟩ : BufTy).Contents (Elt Ideal)) (p : Fin 8) (r : Fin 1024) (n : Fin 9216) :
    (val_main_v11 (F := Ideal) x0 x1 (ix3 p r n) : EReal)
      = ∑ j : Fin 32, ∑ w : Fin 72, ((((BitVec.getLsbD (x1 (ix3 p w n)) j.val).toNat : ℝ) : ℝ) : EReal) * (x0 (ix3 r (0 : Fin 1) (col w j)) : EReal) := by
  rw [val_main_v11_apply]
  unfold val_main_v10
  simp only [Host.dotGeneral]
  rw [Ideal.dotGeneral_apply, sum_contr2 dot_S8x72x32x9216_S1024x72x32_S8x9216x1024_21_21_03_0_n_n 32 72 rfl rfl rfl]
  refine Finset.sum_congr rfl fun j _ => Finset.sum_congr rfl fun w _ => ?_
  refine Eq.trans ?_ (congrArg₂ (fun a b : EReal => a * b) (bits_eq x1 p w j n) (act_eq x0 r w j))
  have h0 := contrEquiv2_symm_val0 dot_S8x72x32x9216_S1024x72x32_S8x9216x1024_21_21_03_0_n_n 32 72 rfl rfl rfl (j, w)
  have h1 := contrEquiv2_symm_val1 dot_S8x72x32x9216_S1024x72x32_S8x9216x1024_21_21_03_0_n_n 32 72 rfl rfl rfl (j, w)
  generalize (contrEquiv2 dot_S8x72x32x9216_S1024x72x32_S8x9216x1024_21_21_03_0_n_n 32 72 rfl rfl rfl).symm (j, w) = q at h0 h1
  refine congrArg₂ (fun a b : EReal => a * b) (congrArg (val_main_v8 (F := Ideal) x1) ?_) (congrArg (val_main_v9 (F := Ideal) x0) ?_)
  · funext a; apply Fin.ext
    match a with
    | ⟨0, _⟩ => rfl
    | ⟨1, _⟩ => exact h1
    | ⟨2, _⟩ => exact h0
    | ⟨3, _⟩ => rfl
  · funext a; apply Fin.ext
    match a with
    | ⟨0, _⟩ => rfl
    | ⟨1, _⟩ => exact h1
    | ⟨2, _⟩ => exact h0

/-- A row's sum. -/
theorem rowsum_eq (x0 : (⟨S1024x1x2304, .bf16⟩ : BufTy).Contents (Elt Ideal)) (r : Fin 1024) :
    (val_main_v27 (F := Ideal) x0 (ix1 r) : EReal) = ∑ k : Fin 2304, (x0 (ix3 r (0 : Fin 1) k) : EReal) := by
  unfold val_main_v27
  rw [hostReduceAdd_apply, Ideal.hostReduceAdd_r3_a12]
  have hz : (val_main_cst_2 (F := Ideal) (Shape.Idx.first h_S_) : EReal) = 0 := Ideal.ofBits_zero_f32
  rw [hz, zero_add, Fin.sum_univ_one]
  refine Finset.sum_congr rfl fun k _ => ?_
  show (x0 _ : EReal) = _
  refine congrArg x0 ?_
  funext a; match a with | ⟨0, _⟩ => rfl | ⟨1, _⟩ => rfl | ⟨2, _⟩ => rfl

theorem centre_eq (x4 : (⟨S1024, .i32⟩ : BufTy).Contents (Elt Ideal)) (b : ℕ) (hb : 3 ≤ b ∧ b ≤ 8) (r : Fin 1024) (h : x4 (ix1 r) = BitVec.ofNat 32 b) :
    (val_main_v36 (F := Ideal) x4 (ix1 r) : EReal) = ((half b : ℝ) : EReal) := by
  have c1 : Ideal.ofBits .f32 0x3F800000#32 = ((1 : ℝ) : EReal) := by simp [Ideal.ofBits, Ideal.ieee, -EReal.coe_mul]; norm_num
  have c2 : Ideal.ofBits .f32 0x3F000000#32 = (((1 / 2 : ℝ) : ℝ) : EReal) := by simp [Ideal.ofBits, Ideal.ieee, -EReal.coe_mul]; norm_num
  rw [val_main_v36_apply, val_main_v35_apply, val_main_cst_6_apply, val_main_v34_apply, val_main_v33_apply, val_main_cst_5_apply, val_main_v32_apply,
    val_main_v31_apply, val_main_v30_apply, val_main_c_4_apply, val_main_v29_apply, val_main_v28_apply, val_main_c_3_apply, h]
  show ((((IntOp.shli .host 1#32 (IntOp.subi 8#32 (BitVec.ofNat 32 b))).toInt : ℝ) : EReal) - Ideal.ofBits .f32 0x3F800000#32) * Ideal.ofBits .f32 0x3F000000#32 = _
  have e : (IntOp.shli .host 1#32 (IntOp.subi 8#32 (BitVec.ofNat 32 b))).toInt = 2 ^ (8 - b) := by
    obtain ⟨h3, h8⟩ := hb
    interval_cases b <;> decide
  rw [c1, c2, e, ← EReal.coe_sub, ← EReal.coe_mul]
  exact congrArg Real.toEReal (by unfold half; push_cast; ring)

/-- THE REFERENCE AT AN INDEX, at a row of width `b`. -/
theorem ref_apply (x0 : (⟨S1024x1x2304, .bf16⟩ : BufTy).Contents (Elt Ideal)) (x1 : (⟨S8x72x9216, .i32⟩ : BufTy).Contents (Elt Ideal)) (x2 x3 : (⟨S9216, .f32⟩ : BufTy).Contents (Elt Ideal))
    (x4 : (⟨S1024, .i32⟩ : BufTy).Contents (Elt Ideal)) (b : ℕ) (hb : 3 ≤ b ∧ b ≤ 8) (r : Fin 1024) (n : Fin 9216) (h : x4 (ix1 r) = BitVec.ofNat 32 b) :
    (val_main_v49 (F := Ideal) x0 x1 x2 x3 x4 (ix2 r n) : EReal)
      = (x2 (ix1 n) : EReal) * ((∑ p : Fin 8, ((coef b p : ℝ) : EReal) * ∑ j : Fin 32, ∑ w : Fin 72,
            ((((BitVec.getLsbD (x1 (ix3 p w n)) j.val).toNat : ℝ) : ℝ) : EReal) * (x0 (ix3 r (0 : Fin 1) (col w j)) : EReal))
          + (((half b : ℝ) : EReal) - (x3 (ix1 n) : EReal)) * ∑ k : Fin 2304, (x0 (ix3 r (0 : Fin 1) k) : EReal)) := by
  have e2 : idx_main_v37 (idx_main_v47 (ix2 r n)) = ix1 n := by funext a; match a with | ⟨0, _⟩ => rfl
  have e3 : idx_main_v39 (idx_main_v41 (ix2 r n)) = ix1 n := by funext a; match a with | ⟨0, _⟩ => rfl
  have e4 : idx_main_v38 (idx_main_v40 (ix2 r n)) = ix1 r := by funext a; match a with | ⟨0, _⟩ => rfl
  have e5 : idx_main_v43 (idx_main_v44 (ix2 r n)) = ix1 r := by funext a; match a with | ⟨0, _⟩ => rfl
  have hp : ∀ p : Fin 8, (val_main_v24 (F := Ideal) x4) (lidx_main_v25 (ix2 r n) p) * (val_main_v11 (F := Ideal) x0 x1) (ridx_main_v25 (ix2 r n) p)
      = ((coef b p : ℝ) : EReal) * ∑ j : Fin 32, ∑ w : Fin 72,
            ((((BitVec.getLsbD (x1 (ix3 p w n)) j.val).toNat : ℝ) : ℝ) : EReal) * (x0 (ix3 r (0 : Fin 1) (col w j)) : EReal) := fun p => by
    have l : lidx_main_v25 (ix2 r n) p = ix2 r p := by funext a; match a with | ⟨0, _⟩ => rfl | ⟨1, _⟩ => rfl
    have q : ridx_main_v25 (ix2 r n) p = ix3 p r n := by funext a; match a with | ⟨0, _⟩ => rfl | ⟨1, _⟩ => rfl | ⟨2, _⟩ => rfl
    rw [l, q, coef_eq x4 b hb r h p, plane_eq]
  rw [val_main_v49_apply, val_main_v48_apply, val_main_v47_apply, val_main_v37_apply, e2, val_main_v46_apply, val_main_v25_apply, val_main_v45_apply,
    val_main_v42_apply, val_main_v40_apply, val_main_v38_apply, e4, val_main_v41_apply, val_main_v39_apply, e3, val_main_v44_apply, val_main_v43_apply, e5,
    rowsum_eq, centre_eq x4 b hb r h, Finset.sum_congr rfl fun p _ => hp p]
  rfl

end Cert.ReferenceIdeal.RefValue
end
-- ==== Proof.Pre.lean ====
/- What the precondition says element by element: each activation a real number, each width one of 3 to 8. -/
module

public import proofs.«01_k».proof.Proof.Gen.Pre_finite_and_3_to_8_bits
public import Idealize.ShloMosaic.Lib.Pipeline.Value
public import Idealize.ShloMosaic.Lib.ValueIdx
public import Idealize.ShloMosaic.PureOps.Ideal.Laws

@[expose] public section

noncomputable section

namespace Cert.Precondition

open Idealize.ShloMosaic Cert.Pre_finite_and_3_to_8_bits

variable [Facts]

theorem real_of_finite (x : EReal) (h : Ideal.cmp .olt (max x (-x)) (Ideal.ofBits .bf16 0x7F80#16) = 1#1) : x = ((x.toReal : ℝ) : EReal) := by
  have ht : Ideal.ofBits .bf16 0x7F80#16 = ⊤ := by simp [Ideal.ofBits, Ideal.ieee]
  rw [ht] at h
  have hlt : max x (-x) < ⊤ := by
    by_contra hc
    unfold Ideal.cmp at h
    simp [hc] at h
  have h1 : x ≠ ⊤ := by rintro rfl; simp at hlt
  have h2 : x ≠ ⊥ := by rintro rfl; simp at hlt
  exact (EReal.coe_toReal h1 h2).symm

theorem width_of_bounds (v : BitVec 32) (h : IntOp.andi (IntOp.cmpi .sge v 3#32) (IntOp.cmpi .sle v 8#32) = 1#1) :
    ∃ b : ℕ, (3 ≤ b ∧ b ≤ 8) ∧ v = BitVec.ofNat 32 b := by
  have h1 : (3#32).sle v = true := by
    by_contra hc
    rw [Bool.not_eq_true] at hc
    unfold IntOp.andi IntOp.cmpi at h
    rw [hc] at h
    simp at h
  have h2 : v.sle 8#32 = true := by
    by_contra hc
    rw [Bool.not_eq_true] at hc
    unfold IntOp.andi IntOp.cmpi at h
    simp only [hc] at h
    simp at h
  rw [BitVec.sle_iff_toInt_le] at h1 h2
  have e3 : (3#32).toInt = 3 := by decide
  have e8 : (8#32).toInt = 8 := by decide
  rw [e3] at h1
  rw [e8] at h2
  have hc := BitVec.toInt_eq_toNat_cond v
  have hl := v.isLt
  refine ⟨v.toNat, ?_, by simp⟩
  split at hc <;> omega

variable (x0 : FVec Ideal S1024x1x2304 .bf16) (x1 : IVec S8x72x9216 32) (x2 x3 : FVec Ideal S9216 .f32) (x4 : IVec S1024 32)

theorem finite (h : (fn (F := Ideal) x0 x1 x2 x3 x4).1 = fun _ => 1#1) (i : S1024x1x2304.Idx) : (x0 i : EReal) = (((x0 i : EReal).toReal : ℝ) : EReal) :=
  real_of_finite (x0 i) (congrFun h i)

theorem width (h : (fn (F := Ideal) x0 x1 x2 x3 x4).2 = fun _ => 1#1) (i : S1024.Idx) : ∃ b : ℕ, (3 ≤ b ∧ b ≤ 8) ∧ x4 i = BitVec.ofNat 32 b :=
  width_of_bounds (x4 i) (congrFun h i)

end Cert.Precondition
end
-- ==== Proof.Algebraic.lean ====
/- Both programs run, and from equal arguments under the precondition their results are equal, element by element. -/
module

public import proofs.«01_k».proof.Defs
public import proofs.«01_k».proof.Proof.Gen.KernelIdeal.Value
public import proofs.«01_k».proof.Proof.RefValue
public import proofs.«01_k».proof.Proof.Pre

@[expose] public section

set_option maxRecDepth 16384

noncomputable section

namespace Cert.Proof

open Idealize.ShloMosaic hiding ix0 ix1 ix2 ix3 ix4 ix5 eq_ix2 eq_ix3
open Idealize.ShloMosaic.TcCoe Idealize.ShloMosaic.ValueIdx Idealize.SL.Sem
open Cert.KernelIdeal.Body
open scoped BigOperators

section Element

open Cert.KernelIdeal Cert.KernelIdeal.Gen

variable (m : (ℓ : Loc nD τ sig) → Buf (Elt Ideal) ℓ)

/-- The arguments as a device holds them. -/
abbrev a0 (c : Dev nD) : Vec Ideal S1024x1x2304 .bf16 := m ((c.tc : Thread nD τ).loc main_arg0)
abbrev a1 (c : Dev nD) : Vec Ideal S8x72x9216 .i32 := m ((c.tc : Thread nD τ).loc main_arg1)
abbrev a2 (c : Dev nD) : Vec Ideal S9216 .f32 := m ((c.tc : Thread nD τ).loc main_arg2)
abbrev a3 (c : Dev nD) : Vec Ideal S9216 .f32 := m ((c.tc : Thread nD τ).loc main_arg3)
abbrev a4 (c : Dev nD) : Vec Ideal S1024 .i32 := m ((c.tc : Thread nD τ).loc main_arg4)

/-- The kernel's result at a row of width `b` and finite activations is the reference's. -/
theorem element (c : Dev nD) (r : Fin 1024) (n : Fin 9216) (b : ℕ) (hb : 3 ≤ b ∧ b ≤ 8) (h : a4 m c (ix1 r) = BitVec.ofNat 32 b)
    (X : Fin 2304 → ℝ) (hX : ∀ k, (a0 m c (ix3 r (0 : Fin 1) k) : EReal) = ((X k : ℝ) : EReal)) :
    (result m c (ix2 r n) : EReal)
      = Cert.ReferenceIdeal.Read.val_main_v49 (F := Ideal) (a0 m c) (a1 m c) (a2 m c) (a3 m c) (a4 m c) (ix2 r n) := by
  obtain ⟨t, l, rfl⟩ := lane_onto n
  have hv5 : V m c main_v5 (ix2 r (0 : Fin 1)) = BitVec.ofNat 32 b := by rw [V_main_v5, column_apply]; exact h
  have hv2 : ∀ k, (V m c main_v2 (ix2 r k) : EReal) = ((X (col (word k) (pos k)) : ℝ) : EReal) := fun k => by
    rw [V_main_v2, permuted_apply]; exact hX _
  have hs : cutRow (V m c main_v3) t (ix2 (0 : Fin 1) l) = a2 m c (ix1 (lane t l)) := by
    show V m c main_v3 (ix2 (0 : Fin 1) (lane t l)) = _
    rw [V_main_v3, row_apply]
  have hz : cutRow (V m c main_v4) t (ix2 (0 : Fin 1) l) = a3 m c (ix1 (lane t l)) := by
    show V m c main_v4 (ix2 (0 : Fin 1) (lane t l)) = _
    rw [V_main_v4, row_apply]
  have hp : ∀ p w, cutPlanes (V m c main_arg1) t (ix3 p w l) = a1 m c (ix3 p w (lane t l)) := fun p w => by
    show V m c main_arg1 (ix3 p w (lane t l)) = _
    rw [V_main_arg1]
  refine (whole_apply (V m c main_v2) (V m c main_arg1) (V m c main_v3) (V m c main_v4) (V m c main_v5) t r l).trans ?_
  refine (out_apply (V m c main_v2) (cutPlanes (V m c main_arg1) t) (cutRow (V m c main_v3) t) (cutRow (V m c main_v4) t) (V m c main_v5) b hb r l hv5
    (fun k => X (col (word k) (pos k))) hv2).trans ?_
  refine Eq.trans ?_ (Cert.ReferenceIdeal.RefValue.ref_apply (a0 m c) (a1 m c) (a2 m c) (a3 m c) (a4 m c) b hb r (lane t l) h).symm
  rw [hs, hz]
  refine congrArg (fun y : EReal => (a2 m c (ix1 (lane t l)) : EReal) * y) ?_
  have hsum : ∑ k : Fin 2304, (a0 m c (ix3 r (0 : Fin 1) k) : EReal) = ((∑ k : Fin 2304, X k : ℝ) : EReal) := by
    rw [coe_sum]; exact Finset.sum_congr rfl fun k _ => hX k
  have hacc : ∑ p : Fin 8, ((coef b p : ℝ) : EReal) * ∑ j : Fin 32, ∑ w : Fin 72,
        ((((BitVec.getLsbD (a1 m c (ix3 p w (lane t l))) j.val).toNat : ℝ) : ℝ) : EReal) * (a0 m c (ix3 r (0 : Fin 1) (col w j)) : EReal)
      = ((∑ p : Fin 8, coef b p * ∑ j : Fin 32, ∑ w : Fin 72, ((BitVec.getLsbD (a1 m c (ix3 p w (lane t l))) j.val).toNat : ℝ) * X (col w j) : ℝ) : EReal) := by
    rw [coe_sum]
    refine Finset.sum_congr rfl fun p _ => ?_
    rw [EReal.coe_mul, coe_sum]
    refine congrArg _ (Finset.sum_congr rfl fun j _ => ?_)
    rw [coe_sum]
    refine Finset.sum_congr rfl fun w _ => ?_
    rw [EReal.coe_mul, hX]
  rw [hsum, hacc]
  simp only [hp]
  rw [codes_sum X (fun p w j => BitVec.getLsbD (a1 m c (ix3 p w (lane t l))) j.val) b, sum_perm]
  exact centre_shift _ _ _ _ _

end Element

theorem algebraic :
    Cert.algebraic_KernelIdeal_ReferenceIdeal_pre_finite_and_3_to_8_bits (hKernelIdeal := Cert.KernelIdeal.Gen.facts) (hReferenceIdeal := Cert.ReferenceIdeal.Gen.facts)
      (hPre_finite_and_3_to_8_bits := Cert.Pre_finite_and_3_to_8_bits.Gen.facts) := by
  intro m g m' g' hpre hargs
  refine ⟨fun c => result m c, ?_, ?_⟩
  · refine (θ_run (Cert.KernelIdeal.defs (F := Ideal)) _ _).mono (fun r h c => ?_) (Cert.KernelIdeal.Value.run_blocks (F := Ideal) m g)
    obtain ⟨hv, h0⟩ := h c
    exact ⟨hv.trans (final m c), h0⟩
  · refine (θ_run (Cert.ReferenceIdeal.defs (F := Ideal)) _ _).mono (fun r h c => ?_) (Cert.ReferenceIdeal.Value.run (F := Ideal) m' g')
    obtain ⟨hv, h0⟩ := h c
    refine ⟨(hv.trans (Cert.ReferenceIdeal.Read.val_main_v49_eq _ _ _ _ _)).trans ?_, h0⟩
    obtain ⟨e0, e1, e2, e3, e4⟩ := hargs c
    rw [e0, e1, e2, e3, e4]
    obtain ⟨p0, p1⟩ := hpre c
    funext i
    obtain ⟨q, n, rfl⟩ : ∃ (q : Fin 1024) (n : Fin 9216), i = ix2 q n := ⟨i 0, i 1, eq_ix2 i⟩
    obtain ⟨b, hb, hw⟩ := Cert.Precondition.width _ _ _ _ _ p1 (ix1 q)
    exact (element m c q n b hb hw _ fun k => Cert.Precondition.finite _ _ _ _ _ p0 (ix3 q (0 : Fin 1) k)).symm

end Cert.Proof
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_3_to_8_bits
public import proofs.«01_k».proof.Proof.Algebraic
public import Idealize.ShloMosaic.Lib.Quiescent

@[expose] public section

noncomputable section

namespace Cert.Proof

open Idealize.ShloMosaic Idealize.ShloMosaic.TcCoe Idealize.SL.Sem

/-- The reference's frame: its run, and no semaphore to count. -/
theorem reference_frame : Cert.quiescent_ReferenceIdeal (hReferenceIdeal := Cert.ReferenceIdeal.Gen.facts) := by
  intro m g _
  exact (θ_run (Cert.ReferenceIdeal.defs (F := Ideal)) _ _).mono
    (fun r h => ⟨fun c => (h c).2, sem_eq_zero_of_no_sems (by decide) r.2⟩) (Cert.ReferenceIdeal.Value.run (F := Ideal) m g)

theorem claim : Cert.Claim :=
  ⟨Cert.Kernel.Gen.facts, Cert.KernelIdeal.Gen.facts, Cert.ReferenceIdeal.Gen.facts, Cert.Pre_finite_and_3_to_8_bits.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
